-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_seq" .f32 0x3ACCCCCD#32 ((1 / 640 : ℝ) : EReal)
  ∧ IdealRules.named_const.Statement Cert.KernelIdeal.κ "log2e_scale" .f32 0x3DB8AA3B#32 (((Real.log 2)⁻¹ * (1 / 16) : ℝ) : EReal)

def algebraic_KernelIdeal_ReferenceIdeal_on_attention_out [hKernelIdeal : Cert.KernelIdeal.Facts] [hReferenceIdeal : Cert.ReferenceIdeal.Facts] [hOn_attention_out : Cert.On_attention_out.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![3, 640, 4096]⟩ : Shape).Idx, (Cert.On_attention_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v0_0) i = v0 c i)
          ∧ (∀ i : (⟨4, ![3, 640, 16, 256]⟩ : Shape).Idx, (Cert.On_attention_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v3) i = v1 c i)
          ∧ (∀ i : (⟨3, ![3, 5, 16]⟩ : Shape).Idx, (Cert.On_attention_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.KernelIdeal.nD Cert.KernelIdeal.τ).loc Cert.KernelIdeal.main_v4) i = v2 c i)
          ∧ (∀ i : (⟨4, ![3, 640, 8, 256]⟩ : Shape).Idx, (Cert.On_attention_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 i = 1#1 → r.2.mem ((c.tc : Thread Cert.KernelIdeal.nD Cert.KernelIdeal.τ).loc Cert.KernelIdeal.main_v7) i = v3 c i)
          ∧ (∀ i : (⟨3, ![3, 10, 8]⟩ : Shape).Idx, (Cert.On_attention_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 i = 1#1 → r.2.mem ((c.tc : Thread Cert.KernelIdeal.nD Cert.KernelIdeal.τ).loc Cert.KernelIdeal.main_v8) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![3, 640, 4096]⟩ : Shape).Idx, (Cert.On_attention_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v81) i = v0 c i)
          ∧ (∀ i : (⟨4, ![3, 640, 16, 256]⟩ : Shape).Idx, (Cert.On_attention_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v83) i = v1 c i)
          ∧ (∀ i : (⟨3, ![3, 5, 16]⟩ : Shape).Idx, (Cert.On_attention_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.ReferenceIdeal.nD Cert.ReferenceIdeal.τ).loc Cert.ReferenceIdeal.main_v17) i = v2 c i)
          ∧ (∀ i : (⟨4, ![3, 640, 8, 256]⟩ : Shape).Idx, (Cert.On_attention_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 i = 1#1 → r.2.mem ((c.tc : Thread Cert.ReferenceIdeal.nD Cert.ReferenceIdeal.τ).loc Cert.ReferenceIdeal.main_v85) i = v3 c i)
          ∧ (∀ i : (⟨3, ![3, 10, 8]⟩ : Shape).Idx, (Cert.On_attention_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 i = 1#1 → r.2.mem ((c.tc : Thread Cert.ReferenceIdeal.nD Cert.ReferenceIdeal.τ).loc Cert.ReferenceIdeal.main_v31) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_attention_out : Cert.On_attention_out.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_attention_out (hKernelIdeal := hKernelIdeal) (hReferenceIdeal := hReferenceIdeal) (hOn_attention_out := hOn_attention_out)
-- ==== On_attention_out.lean ====
abbrev S3x640x4096 : Shape := ⟨3, ![3, 640, 4096]⟩
abbrev S3x640x2048 : Shape := ⟨3, ![3, 640, 2048]⟩
abbrev S_ : Shape := ⟨0, ![]⟩
abbrev S3x640x16x256 : Shape := ⟨4, ![3, 640, 16, 256]⟩
abbrev S3x5x16 : Shape := ⟨3, ![3, 5, 16]⟩
abbrev S3x640x8x256 : Shape := ⟨4, ![3, 640, 8, 256]⟩
abbrev S3x10x8 : Shape := ⟨3, ![3, 10, 8]⟩

class Facts : Prop where
  bcast_S_S3x640x4096 : S_.BroadcastsInDim S3x640x4096 (![] : Fin 0 → Fin S3x640x4096.rank)
  bcast_S_S3x640x16x256 : S_.BroadcastsInDim S3x640x16x256 (![] : Fin 0 → Fin S3x640x16x256.rank)
  bcast_S_S3x5x16 : S_.BroadcastsInDim S3x5x16 (![] : Fin 0 → Fin S3x5x16.rank)
  bcast_S_S3x640x8x256 : S_.BroadcastsInDim S3x640x8x256 (![] : Fin 0 → Fin S3x640x8x256.rank)
  bcast_S_S3x10x8 : S_.BroadcastsInDim S3x10x8 (![] : Fin 0 → Fin S3x10x8.rank)

variable [Facts]

def fn {F : FTy → Type} [FloatOps F] (main_arg0 : FVec F S3x640x4096 .bf16) (main_arg1 : FVec F S3x640x2048 .bf16) (main_arg2 : FVec F S3x640x2048 .bf16) : IVec S3x640x4096 1 × IVec S3x640x16x256 1 × IVec S3x5x16 1 × IVec S3x640x8x256 1 × IVec S3x10x8 1 :=
  let main_c : IVec S_ 1 := constantI S_ 1 1#1
  let main_v0 : IVec S3x640x4096 1 := broadcastInDim S3x640x4096 ![] bcast_S_S3x640x4096 main_c
  let main_c_0 : IVec S_ 1 := constantI S_ 1 0#1
  let main_v1 : IVec S3x640x16x256 1 := broadcastInDim S3x640x16x256 ![] bcast_S_S3x640x16x256 main_c_0
  let main_c_1 : IVec S_ 1 := constantI S_ 1 0#1
  let main_v2 : IVec S3x5x16 1 := broadcastInDim S3x5x16 ![] bcast_S_S3x5x16 main_c_1
  let main_c_2 : IVec S_ 1 := constantI S_ 1 0#1
  let main_v3 : IVec S3x640x8x256 1 := broadcastInDim S3x640x8x256 ![] bcast_S_S3x640x8x256 main_c_2
  let main_c_3 : IVec S_ 1 := constantI S_ 1 0#1
  let main_v4 : IVec S3x10x8 1 := broadcastInDim S3x10x8 ![] bcast_S_S3x10x8 main_c_3
  (main_v0, main_v1, main_v2, main_v3, main_v4)
-- ==== Kernel.lean ====
abbrev S3x640x4096 : Shape := ⟨3, ![3, 640, 4096]⟩
abbrev S3x640x2048 : Shape := ⟨3, ![3, 640, 2048]⟩
abbrev S61440x128 : Shape := ⟨2, ![61440, 128]⟩
abbrev S5x3x16 : Shape := ⟨3, ![5, 3, 16]⟩
abbrev S30720x128 : Shape := ⟨2, ![30720, 128]⟩
abbrev S3x8x10 : Shape := ⟨3, ![3, 8, 10]⟩
abbrev S1x128x4096 : Shape := ⟨3, ![1, 128, 4096]⟩
abbrev S1x640x2048 : Shape := ⟨3, ![1, 640, 2048]⟩
abbrev S1x128x2048 : Shape := ⟨3, ![1, 128, 2048]⟩
abbrev S4096x128 : Shape := ⟨2, ![4096, 128]⟩
abbrev S2048x128 : Shape := ⟨2, ![2048, 128]⟩
abbrev S1x8x10 : Shape := ⟨3, ![1, 8, 10]⟩
abbrev S1x2048 : Shape := ⟨2, ![1, 2048]⟩
abbrev S640x2048 : Shape := ⟨2, ![640, 2048]⟩
abbrev S2048x640 : Shape := ⟨2, ![2048, 640]⟩
abbrev S80x128 : Shape := ⟨2, ![80, 128]⟩
abbrev S128x128 : Shape := ⟨2, ![128, 128]⟩
abbrev S1024x128 : Shape := ⟨2, ![1024, 128]⟩
abbrev S512x128 : Shape := ⟨2, ![512, 128]⟩
abbrev S1x640x256 : Shape := ⟨3, ![1, 640, 256]⟩
abbrev S640x256 : Shape := ⟨2, ![640, 256]⟩
abbrev S20x32x256 : Shape := ⟨3, ![20, 32, 256]⟩
abbrev S32x256 : Shape := ⟨2, ![32, 256]⟩
abbrev S256 : Shape := ⟨1, ![256]⟩
abbrev S1x256 : Shape := ⟨2, ![1, 256]⟩
abbrev S8x10 : Shape := ⟨2, ![8, 10]⟩
abbrev S1x64x256 : Shape := ⟨3, ![1, 64, 256]⟩
abbrev S64x256 : Shape := ⟨2, ![64, 256]⟩
abbrev S4x16x256 : Shape := ⟨3, ![4, 16, 256]⟩
abbrev S16x256 : Shape := ⟨2, ![16, 256]⟩
abbrev S1 : Shape := ⟨1, ![1]⟩
abbrev S1x1 : Shape := ⟨2, ![1, 1]⟩
abbrev S1x128 : Shape := ⟨2, ![1, 128]⟩
abbrev S64x128 : Shape := ⟨2, ![64, 128]⟩
abbrev S1x128x256 : Shape := ⟨3, ![1, 128, 256]⟩
abbrev S128x256 : Shape := ⟨2, ![128, 256]⟩
abbrev S256x128 : Shape := ⟨2, ![256, 128]⟩
abbrev S1x16 : Shape := ⟨2, ![1, 16]⟩
abbrev S8x16x256 : Shape := ⟨3, ![8, 16, 256]⟩
abbrev S256x256 : Shape := ⟨2, ![256, 256]⟩
abbrev S4x32x128 : Shape := ⟨3, ![4, 32, 128]⟩
abbrev S32x128 : Shape := ⟨2, ![32, 128]⟩
abbrev S128 : Shape := ⟨1, ![128]⟩
abbrev S1x1x16 : Shape := ⟨3, ![1, 1, 16]⟩
abbrev S8x32x128 : Shape := ⟨3, ![8, 32, 128]⟩
abbrev S384x256 : Shape := ⟨2, ![384, 256]⟩
abbrev S384x128 : Shape := ⟨2, ![384, 128]⟩
abbrev S12x32x128 : Shape := ⟨3, ![12, 32, 128]⟩
abbrev S256x384 : Shape := ⟨2, ![256, 384]⟩
abbrev S512x256 : Shape := ⟨2, ![512, 256]⟩
abbrev S16x32x128 : Shape := ⟨3, ![16, 32, 128]⟩
abbrev S256x512 : Shape := ⟨2, ![256, 512]⟩
abbrev S640x128 : Shape := ⟨2, ![640, 128]⟩
abbrev S20x32x128 : Shape := ⟨3, ![20, 32, 128]⟩
abbrev S256x640 : Shape := ⟨2, ![256, 640]⟩
abbrev S3x640x2x2x8x128 : Shape := ⟨6, ![3, 640, 2, 2, 8, 128]⟩
abbrev S3x640x2x8x2x128 : Shape := ⟨6, ![3, 640, 2, 8, 2, 128]⟩
abbrev S3x640x16x256 : Shape := ⟨4, ![3, 640, 16, 256]⟩
abbrev S3x5x16 : Shape := ⟨3, ![3, 5, 16]⟩
abbrev S3x640x1x2x8x128 : Shape := ⟨6, ![3, 640, 1, 2, 8, 128]⟩
abbrev S3x640x1x8x2x128 : Shape := ⟨6, ![3, 640, 1, 8, 2, 128]⟩
abbrev S3x640x8x256 : Shape := ⟨4, ![3, 640, 8, 256]⟩
abbrev S3x10x8 : Shape := ⟨3, ![3, 10, 8]⟩

abbrev nBuf : Space → Nat
  | .hbm => 16
  | .vmem => 22
  | .smem => 0
  | _ => 0

abbrev bufTy : (tb : Table) → Fin (tcTables nBuf tb) → BufTy
  | .hbm, ⟨0, _⟩ => ⟨S3x640x4096, .bf16⟩
  | .hbm, ⟨1, _⟩ => ⟨S3x640x2048, .bf16⟩
  | .hbm, ⟨2, _⟩ => ⟨S3x640x2048, .bf16⟩
  | .hbm, ⟨3, _⟩ => ⟨S3x640x4096, .bf16⟩
  | .hbm, ⟨4, _⟩ => ⟨S61440x128, .i8⟩
  | .hbm, ⟨5, _⟩ => ⟨S5x3x16, .f32⟩
  | .hbm, ⟨6, _⟩ => ⟨S30720x128, .i8⟩
  | .hbm, ⟨7, _⟩ => ⟨S3x8x10, .f32⟩
  | .hbm, ⟨8, _⟩ => ⟨S3x640x2x2x8x128, .i8⟩
  | .hbm, ⟨9, _⟩ => ⟨S3x640x2x8x2x128, .i8⟩
  | .hbm, ⟨10, _⟩ => ⟨S3x640x16x256, .i8⟩
  | .hbm, ⟨11, _⟩ => ⟨S3x5x16, .f32⟩
  | .hbm, ⟨12, _⟩ => ⟨S3x640x1x2x8x128, .i8⟩
  | .hbm, ⟨13, _⟩ => ⟨S3x640x1x8x2x128, .i8⟩
  | .hbm, ⟨14, _⟩ => ⟨S3x640x8x256, .i8⟩
  | .hbm, ⟨15, _⟩ => ⟨S3x10x8, .f32⟩
  | .local _ .vmem, ⟨0, _⟩ => ⟨S1x128x4096, .bf16⟩
  | .local _ .vmem, ⟨1, _⟩ => ⟨S1x128x4096, .bf16⟩
  | .local _ .vmem, ⟨2, _⟩ => ⟨S1x640x2048, .bf16⟩
  | .local _ .vmem, ⟨3, _⟩ => ⟨S1x640x2048, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x128x4096, .bf16⟩
  | .local _ .vmem, ⟨7, _⟩ => ⟨S1x128x4096, .bf16⟩
  | .local _ .vmem, ⟨8, _⟩ => ⟨S4096x128, .i8⟩
  | .local _ .vmem, ⟨9, _⟩ => ⟨S4096x128, .i8⟩
  | .local _ .vmem, ⟨10, _⟩ => ⟨S5x3x16, .f32⟩
  | .local _ .vmem, ⟨11, _⟩ => ⟨S2048x128, .i8⟩
  | .local _ .vmem, ⟨12, _⟩ => ⟨S2048x128, .i8⟩
  | .local _ .vmem, ⟨13, _⟩ => ⟨S1x8x10, .f32⟩
  | .local _ .vmem, ⟨14, _⟩ => ⟨S1x8x10, .f32⟩
  | .local _ .vmem, ⟨15, _⟩ => ⟨S1x2048, .f32⟩
  | .local _ .vmem, ⟨16, _⟩ => ⟨S640x2048, .bf16⟩
  | .local _ .vmem, ⟨17, _⟩ => ⟨S2048x640, .bf16⟩
  | .local _ .vmem, ⟨18, _⟩ => ⟨S80x128, .f32⟩
  | .local _ .vmem, ⟨19, _⟩ => ⟨S128x128, .f32⟩
  | .local _ .vmem, ⟨20, _⟩ => ⟨S1024x128, .i32⟩
  | .local _ .vmem, ⟨21, _⟩ => ⟨S512x128, .i32⟩
  | _, _ => ⟨S3x640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![3, 5], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let c0_962 : Index := 0#32
  let arg0 : BitVec 32 := BitVec.ofNat 32 (i 0).val
  let v2405 : Index := Scalar.indexCast arg0
  let c0_963 : Index := 0#32
  ![0, v2405.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def k0_off2 (i : grid0.Coords) : Fin 3 → Nat :=
  let c1_946 : Index := 1#32
  let arg0 : BitVec 32 := BitVec.ofNat 32 (i 0).val
  let v2501 : Index := Scalar.indexCast arg0
  let c0_947 : Index := 0#32
  ![1, v2501.toNat, 0]
def k0_cond4 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_5 : BitVec 32 := 0#32
  let v13 : BitVec 1 := Scalar.cmpi .ne v12 c0_i32_5
  v13

def k0_off3 (i : grid0.Coords) : Fin 3 → Nat :=
  let c2_998 : Index := 2#32
  let arg0 : BitVec 32 := BitVec.ofNat 32 (i 0).val
  let v2693 : Index := Scalar.indexCast arg0
  let c0_999 : Index := 0#32
  ![2, v2693.toNat, 0]
def k0_cond5 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_6 : BitVec 32 := 0#32
  let v16 : BitVec 1 := Scalar.cmpi .ne v15 c0_i32_6
  v16

def k0_off4 (i : grid0.Coords) : Fin 3 → Nat :=
  let c3_1047 : Index := 3#32
  let arg0 : BitVec 32 := BitVec.ofNat 32 (i 0).val
  let v2885 : Index := Scalar.indexCast arg0
  let c0_1048 : Index := 0#32
  ![3, v2885.toNat, 0]
def k0_cond6 (i : grid0.Coords) : BitVec 1 :=
  let arg1 : BitVec 32 := BitVec.ofNat 32 (i 1).val
  let c4_i32 : BitVec 32 := 4#32
  let v17 : BitVec 1 := Scalar.cmpi .eq arg1 c4_i32
  let v18 : BitVec 32 := Scalar.extui v17
  let c0_i32_7 : BitVec 32 := 0#32
  let v19 : BitVec 1 := Scalar.cmpi .ne v18 c0_i32_7
  v19

def k0_off5 (i : grid0.Coords) : Fin 3 → Nat :=
  let c4_1096 : Index := 4#32
  let arg0 : BitVec 32 := BitVec.ofNat 32 (i 0).val
  let v3077 : Index := Scalar.indexCast arg0
  let c0_1097 : Index := 0#32
  ![4, v3077.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S5x3x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "inv_seq" => some ((1 / 640 : ℝ) : EReal)
  | "log2e_scale" => some (((Real.log 2)⁻¹ * (1 / 16) : ℝ) : EReal)
  | _ => none
-- ==== ReferenceIdeal.lean ====
abbrev S3x640x4096 : Shape := ⟨3, ![3, 640, 4096]⟩
abbrev S3x640x2048 : Shape := ⟨3, ![3, 640, 2048]⟩
abbrev S3x640x16x256 : Shape := ⟨4, ![3, 640, 16, 256]⟩
abbrev S3x640x8x256 : Shape := ⟨4, ![3, 640, 8, 256]⟩
abbrev S_ : Shape := ⟨0, ![]⟩
abbrev S3x8x256 : Shape := ⟨3, ![3, 8, 256]⟩
abbrev S3x1x8x256 : Shape := ⟨4, ![3, 1, 8, 256]⟩
abbrev S3x5x128x16x256 : Shape := ⟨5, ![3, 5, 128, 16, 256]⟩
abbrev S3x5x16 : Shape := ⟨3, ![3, 5, 16]⟩
abbrev S3x5x1x16x1 : Shape := ⟨5, ![3, 5, 1, 16, 1]⟩
abbrev S3x10x64x8x256 : Shape := ⟨5, ![3, 10, 64, 8, 256]⟩
abbrev S3x10x8 : Shape := ⟨3, ![3, 10, 8]⟩
abbrev S3x10x1x8x1 : Shape := ⟨5, ![3, 10, 1, 8, 1]⟩
abbrev S3x640x8x2x256 : Shape := ⟨5, ![3, 640, 8, 2, 256]⟩
abbrev S3x8x2x640x256 : Shape := ⟨5, ![3, 8, 2, 640, 256]⟩
abbrev S3x5x128x16 : Shape := ⟨4, ![3, 5, 128, 16]⟩
abbrev S3x640x16 : Shape := ⟨3, ![3, 640, 16]⟩
abbrev S3x640x8x2 : Shape := ⟨4, ![3, 640, 8, 2]⟩
abbrev S3x8x2x640 : Shape := ⟨4, ![3, 8, 2, 640]⟩
abbrev S3x8x640x256 : Shape := ⟨4, ![3, 8, 640, 256]⟩
abbrev S3x10x64x8 : Shape := ⟨4, ![3, 10, 64, 8]⟩
abbrev S3x640x8 : Shape := ⟨3, ![3, 640, 8]⟩
abbrev S3x8x640 : Shape := ⟨3, ![3, 8, 640]⟩
abbrev S3x8x2x640x640 : Shape := ⟨5, ![3, 8, 2, 640, 640]⟩
abbrev S3x8x2x640x1 : Shape := ⟨5, ![3, 8, 2, 640, 1]⟩
abbrev S3x8x1x1x640 : Shape := ⟨5, ![3, 8, 1, 1, 640]⟩
abbrev S640 : Shape := ⟨1, ![640]⟩
abbrev S1x640 : Shape := ⟨2, ![1, 640]⟩
abbrev S640x1 : Shape := ⟨2, ![640, 1]⟩
abbrev S640x640 : Shape := ⟨2, ![640, 640]⟩

abbrev nBuf : Space → Nat
  | .hbm => 124
  | .vmem => 0
  | .smem => 0
  | _ => 0

abbrev bufTy : (tb : Table) → Fin (tcTables nBuf tb) → BufTy
  | .hbm, ⟨0, _⟩ => ⟨S3x640x4096, .bf16⟩
  | .hbm, ⟨1, _⟩ => ⟨S3x640x2048, .bf16⟩
  | .hbm, ⟨2, _⟩ => ⟨S3x640x2048, .bf16⟩
  | .hbm, ⟨3, _⟩ => ⟨S3x640x4096, .f32⟩
  | .hbm, ⟨4, _⟩ => ⟨S3x640x16x256, .f32⟩
  | .hbm, ⟨5, _⟩ => ⟨S3x640x2048, .f32⟩
  | .hbm, ⟨6, _⟩ => ⟨S3x640x8x256, .f32⟩
  | .hbm, ⟨7, _⟩ => ⟨S_, .f32⟩
  | .hbm, ⟨8, _⟩ => ⟨S3x8x256, .f32⟩
  | .hbm, ⟨9, _⟩ => ⟨S3x1x8x256, .f32⟩
  | .hbm, ⟨10, _⟩ => ⟨S_, .f32⟩
  | .hbm, ⟨11, _⟩ => ⟨S3x1x8x256, .f32⟩
  | .hbm, ⟨12, _⟩ => ⟨S3x1x8x256, .f32⟩
  | .hbm, ⟨13, _⟩ => ⟨S3x640x8x256, .f32⟩
  | .hbm, ⟨14, _⟩ => ⟨S3x640x8x256, .f32⟩
  | .hbm, ⟨15, _⟩ => ⟨S3x5x128x16x256, .f32⟩
  | .hbm, ⟨16, _⟩ => ⟨S3x5x128x16x256, .f32⟩
  | .hbm, ⟨17, _⟩ => ⟨S_, .f32⟩
  | .hbm, ⟨18, _⟩ => ⟨S3x5x16, .f32⟩
  | .hbm, ⟨19, _⟩ => ⟨S_, .f32⟩
  | .hbm, ⟨20, _⟩ => ⟨S3x5x16, .f32⟩
  | .hbm, ⟨21, _⟩ => ⟨S3x5x16, .i1⟩
  | .hbm, ⟨22, _⟩ => ⟨S_, .f32⟩
  | .hbm, ⟨23, _⟩ => ⟨S3x5x16, .f32⟩
  | .hbm, ⟨24, _⟩ => ⟨S3x5x16, .f32⟩
  | .hbm, ⟨25, _⟩ => ⟨S_, .f32⟩
  | .hbm, ⟨26, _⟩ => ⟨S_, .f32⟩
  | .hbm, ⟨27, _⟩ => ⟨S3x5x16, .f32⟩
  | .hbm, ⟨28, _⟩ => ⟨S3x5x16, .f32⟩
  | .hbm, ⟨29, _⟩ => ⟨S3x5x1x16x1, .f32⟩
  | .hbm, ⟨30, _⟩ => ⟨S3x5x128x16x256, .f32⟩
  | .hbm, ⟨31, _⟩ => ⟨S3x5x128x16x256, .f32⟩
  | .hbm, ⟨32, _⟩ => ⟨S3x5x128x16x256, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S3x5x128x16x256, .f32⟩
  | .hbm, ⟨37, _⟩ => ⟨S3x5x128x16x256, .f32⟩
  | .hbm, ⟨38, _⟩ => ⟨S_, .f32⟩
  | .hbm, ⟨39, _⟩ => ⟨S3x5x128x16x256, .f32⟩
  | .hbm, ⟨40, _⟩ => ⟨S3x5x128x16x256, .f32⟩
  | .hbm, ⟨41, _⟩ => ⟨S3x640x16x256, .f32⟩
  | .hbm, ⟨42, _⟩ => ⟨S3x10x64x8x256, .f32⟩
  | .hbm, ⟨43, _⟩ => ⟨S3x10x64x8x256, .f32⟩
  | .hbm, ⟨44, _⟩ => ⟨S_, .f32⟩
  | .hbm, ⟨45, _⟩ => ⟨S3x10x8, .f32⟩
  | .hbm, ⟨46, _⟩ => ⟨S_, .f32⟩
  | .hbm, ⟨47, _⟩ => ⟨S3x10x8, .f32⟩
  | .hbm, ⟨48, _⟩ => ⟨S3x10x8, .i1⟩
  | .hbm, ⟨49, _⟩ => ⟨S_, .f32⟩
  | .hbm, ⟨50, _⟩ => ⟨S3x10x8, .f32⟩
  | .hbm, ⟨51, _⟩ => ⟨S3x10x8, .f32⟩
  | .hbm, ⟨52, _⟩ => ⟨S_, .f32⟩
  | .hbm, ⟨53, _⟩ => ⟨S_, .f32⟩
  | .hbm, ⟨54, _⟩ => ⟨S3x10x8, .f32⟩
  | .hbm, ⟨55, _⟩ => ⟨S3x10x8, .f32⟩
  | .hbm, ⟨56, _⟩ => ⟨S3x10x1x8x1, .f32⟩
  | .hbm, ⟨57, _⟩ => ⟨S3x10x64x8x256, .f32⟩
  | .hbm, ⟨58, _⟩ => ⟨S3x10x64x8x256, .f32⟩
  | .hbm, ⟨59, _⟩ => ⟨S3x10x64x8x256, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S3x10x64x8x256, .f32⟩
  | .hbm, ⟨64, _⟩ => ⟨S3x10x64x8x256, .f32⟩
  | .hbm, ⟨65, _⟩ => ⟨S_, .f32⟩
  | .hbm, ⟨66, _⟩ => ⟨S3x10x64x8x256, .f32⟩
  | .hbm, ⟨67, _⟩ => ⟨S3x10x64x8x256, .f32⟩
  | .hbm, ⟨68, _⟩ => ⟨S3x640x8x256, .f32⟩
  | .hbm, ⟨69, _⟩ => ⟨S3x640x16x256, .bf16⟩
  | .hbm, ⟨70, _⟩ => ⟨S3x640x8x2x256, .bf16⟩
  | .hbm, ⟨71, _⟩ => ⟨S3x8x2x640x256, .bf16⟩
  | .hbm, ⟨72, _⟩ => ⟨S3x5x128x16, .f32⟩
  | .hbm, ⟨73, _⟩ => ⟨S3x640x16, .f32⟩
  | .hbm, ⟨74, _⟩ => ⟨S3x640x8x2, .f32⟩
  | .hbm, ⟨75, _⟩ => ⟨S3x8x2x640, .f32⟩
  | .hbm, ⟨76, _⟩ => ⟨S3x640x8x256, .bf16⟩
  | .hbm, ⟨77, _⟩ => ⟨S3x8x640x256, .bf16⟩
  | .hbm, ⟨78, _⟩ => ⟨S3x10x64x8, .f32⟩
  | .hbm, ⟨79, _⟩ => ⟨S3x640x8, .f32⟩
  | .hbm, ⟨80, _⟩ => ⟨S3x8x640, .f32⟩
  | .hbm, ⟨81, _⟩ => ⟨S3x640x8x256, .bf16⟩
  | .hbm, ⟨82, _⟩ => ⟨S3x8x640x256, .bf16⟩
  | .hbm, ⟨83, _⟩ => ⟨S3x8x2x640x640, .f32⟩
  | .hbm, ⟨84, _⟩ => ⟨S3x8x2x640x1, .f32⟩
  | .hbm, ⟨85, _⟩ => ⟨S3x8x2x640x640, .f32⟩
  | .hbm, ⟨86, _⟩ => ⟨S3x8x2x640x640, .f32⟩
  | .hbm, ⟨87, _⟩ => ⟨S3x8x1x1x640, .f32⟩
  | .hbm, ⟨88, _⟩ => ⟨S3x8x2x640x640, .f32⟩
  | .hbm, ⟨89, _⟩ => ⟨S3x8x2x640x640, .f32⟩
  | .hbm, ⟨90, _⟩ => ⟨S_, .f32⟩
  | .hbm, ⟨91, _⟩ => ⟨S3x8x2x640x640, .f32⟩
  | .hbm, ⟨92, _⟩ => ⟨S3x8x2x640x640, .f32⟩
  | .hbm, ⟨93, _⟩ => ⟨S640, .i32⟩
  | .hbm, ⟨94, _⟩ => ⟨S1x640, .i32⟩
  | .hbm, ⟨95, _⟩ => ⟨S640x1, .i32⟩
  | .hbm, ⟨96, _⟩ => ⟨S640x640, .i32⟩
  | .hbm, ⟨97, _⟩ => ⟨S640x640, .i32⟩
  | .hbm, ⟨98, _⟩ => ⟨S640x640, .i1⟩
  | .hbm, ⟨99, _⟩ => ⟨S_, .f32⟩
  | .hbm, ⟨100, _⟩ => ⟨S_, .f32⟩
  | .hbm, ⟨101, _⟩ => ⟨S3x8x2x640x640, .i1⟩
  | .hbm, ⟨102, _⟩ => ⟨S3x8x2x640x640, .f32⟩
  | .hbm, ⟨103, _⟩ => ⟨S3x8x2x640x640, .f32⟩
  | .hbm, ⟨104, _⟩ => ⟨S_, .f32⟩
  | .hbm, ⟨105, _⟩ => ⟨S3x8x2x640, .f32⟩
  | .hbm, ⟨106, _⟩ => ⟨S3x8x2x640x1, .f32⟩
  | .hbm, ⟨107, _⟩ => ⟨S3x8x2x640x640, .f32⟩
  | .hbm, ⟨108, _⟩ => ⟨S3x8x2x640x640, .f32⟩
  | .hbm, ⟨109, _⟩ => ⟨S3x8x2x640x640, .f32⟩
  | .hbm, ⟨110, _⟩ => ⟨S_, .f32⟩
  | .hbm, ⟨111, _⟩ => ⟨S3x8x2x640, .f32⟩
  | .hbm, ⟨112, _⟩ => ⟨S3x8x2x640x1, .f32⟩
  | .hbm, ⟨113, _⟩ => ⟨S3x8x2x640x640, .bf16⟩
  | .hbm, ⟨114, _⟩ => ⟨S3x8x2x640x256, .f32⟩
  | .hbm, ⟨115, _⟩ => ⟨S3x8x2x640x256, .f32⟩
  | .hbm, ⟨116, _⟩ => ⟨S3x8x2x640x256, .f32⟩
  | .hbm, ⟨117, _⟩ => ⟨S3x8x2x640x256, .bf16⟩
  | .hbm, ⟨118, _⟩ => ⟨S3x640x8x2x256, .bf16⟩
  | .hbm, ⟨119, _⟩ => ⟨S3x640x4096, .bf16⟩
  | .hbm, ⟨120, _⟩ => ⟨S3x640x16x256, .i32⟩
  | .hbm, ⟨121, _⟩ => ⟨S3x640x16x256, .i8⟩
  | .hbm, ⟨122, _⟩ => ⟨S3x640x8x256, .i32⟩
  | .hbm, ⟨123, _⟩ => ⟨S3x640x8x256, .i8⟩
  | _, _ => ⟨S3x640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_cst_6 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_cst_10 : Ref sig .tc := ⟨.hbm, 52, rfl⟩
abbrev main_call3_v0 : Ref sig .tc := ⟨.hbm, 53, rfl⟩
abbrev main_call3_v1 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_11 : Ref sig .tc := ⟨.hbm, 60, rfl⟩
abbrev main_cst_12 : Ref sig .tc := ⟨.hbm, 61, rfl⟩
abbrev main_call5_v0 : Ref sig .tc := ⟨.hbm, 62, rfl⟩
abbrev main_call5_v1 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_call6_v0 : Ref sig .tc := ⟨.hbm, 100, rfl⟩
abbrev main_call6_v1 : Ref sig .tc := ⟨.hbm, 101, rfl⟩
abbrev main_call6_v2 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_16 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩

abbrev nD : Nat := 1
abbrev τ : Topo := Topo.v7x

variable {F : FTy → Type} [FloatOps F]
-- ==== Proof.FrameKernel.Runs.lean ====
/- (The text of a generated frame module, kept here as it stood.) what the runs of `proofs.«01_k».proof.Kernel`'s
   frame certificate share — the frame kit (`Gen.hmain`, `Gen.V`, `Gen.iblk`, `Gen.frame_of`) and everything the runs
   are stated over (the body's branch conditions in closed form over the points; where its windows are idle; the staging and
   scratch memrefs; side conditions assumed, `Gen.Hyps`; a ring's names and canonical forms) —, imported by the
   first case's run (Frame/Run<κ>.lean: each imports the one before it) and, through the last, by the Frame module
   (Frame.lean), which holds the rest of the certificate. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (none here). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v1, main_v2, main_v3, main_v4, main_v5, main_v6, main_v7, main_v8}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      (Pipeline.RDat.FramePostR.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 15 = 0 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 15 = 0)

/-- The condition of the body's `scf.if` 1 (`k0_h2`), from the grid coordinates (the skeleton's scalar
    chain substituted). -/
abbrev cond0_1 (i : grid0.Coords) : Prop := k0_cond2 i = 1#1
/-- It holds at the points ≡ 0 (mod 5) — by arithmetic of the point. -/
theorem hcond0_1 : ∀ t : Fin cfg0.N, cond0_1 (grid0.coords t) ↔ t.val % 5 = 0 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_1, k0_cond2, e0, e1]
    word_cmp
   : ∀ t : Fin grid0.N, cond0_1 (grid0.coords t) ↔ t.val % 5 = 0)

/-- The condition of the body's `scf.if` 2 (`k0_h3`), from the grid coordinates (the skeleton's scalar
    chain substituted). -/
abbrev cond0_2 (i : grid0.Coords) : Prop := k0_cond3 i = 1#1
/-- It holds at the points ≡ 1 (mod 5) — by arithmetic of the point. -/
theorem hcond0_2 : ∀ t : Fin cfg0.N, cond0_2 (grid0.coords t) ↔ t.val % 5 = 1 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_2, k0_cond3, e0, e1]
    word_cmp
   : ∀ t : Fin grid0.N, cond0_2 (grid0.coords t) ↔ t.val % 5 = 1)

/-- The condition of the body's `scf.if` 3 (`k0_h4`), from the grid coordinates (the skeleton's scalar
    chain substituted). -/
abbrev cond0_3 (i : grid0.Coords) : Prop := k0_cond4 i = 1#1
/-- It holds at the points ≡ 2 (mod 5) — by arithmetic of the point. -/
theorem hcond0_3 : ∀ t : Fin cfg0.N, cond0_3 (grid0.coords t) ↔ t.val % 5 = 2 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_3, k0_cond4, e0, e1]
    word_cmp
   : ∀ t : Fin grid0.N, cond0_3 (grid0.coords t) ↔ t.val % 5 = 2)

/-- The condition of the body's `scf.if` 4 (`k0_h5`), from the grid coordinates (the skeleton's scalar
    chain substituted). -/
abbrev cond0_4 (i : grid0.Coords) : Prop := k0_cond5 i = 1#1
/-- It holds at the points ≡ 3 (mod 5) — by arithmetic of the point. -/
theorem hcond0_4 : ∀ t : Fin cfg0.N, cond0_4 (grid0.coords t) ↔ t.val % 5 = 3 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_4, k0_cond5, e0, e1]
    word_cmp
   : ∀ t : Fin grid0.N, cond0_4 (grid0.coords t) ↔ t.val % 5 = 3)

/-- The condition of the body's `scf.if` 5 (`k0_h6`), from the grid coordinates (the skeleton's scalar
    chain substituted). -/
abbrev cond0_5 (i : grid0.Coords) : Prop := k0_cond6 i = 1#1
/-- It holds at the points ≡ 4 (mod 5) — by arithmetic of the point. -/
theorem hcond0_5 : ∀ t : Fin cfg0.N, cond0_5 (grid0.coords t) ↔ t.val % 5 = 4 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_5, k0_cond6, e0, e1]
    word_cmp
   : ∀ t : Fin grid0.N, cond0_5 (grid0.coords t) ↔ t.val % 5 = 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x128x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x640x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5x3x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x10 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1x2048 .f32 := Memref.whole cc0_scratch0
abbrev scM0_1 : Memref sig .tc .vmem S640x2048 .bf16 := Memref.whole cc0_scratch1
abbrev scM0_2 : Memref sig .tc .vmem S2048x640 .bf16 := Memref.whole cc0_scratch2
abbrev scM0_3 : Memref sig .tc .vmem S80x128 .f32 := Memref.whole cc0_scratch3
abbrev scM0_4 : Memref sig .tc .vmem S128x128 .f32 := Memref.whole cc0_scratch4
abbrev scM0_5 : Memref sig .tc .vmem S1024x128 .i32 := Memref.whole cc0_scratch5
abbrev scM0_6 : Memref sig .tc .vmem S512x128 .i32 := Memref.whole cc0_scratch6
/-- The scratch `arg10` the kernel carries between points, as a view: what it holds is stated through it. -/
abbrev VS0_0 : View sig .tc .vmem S1x2048 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Gen

end
-- ==== Proof.FrameKernel.RunA.lean ====
/- (The text of a generated frame module, kept here as it stood.) the whole-body RUN of `proofs.«01_k».proof.Kernel`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.FrameKernel.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3072000 in
/-- What the body's stores leave in each output's staging memref, as pieces (last first) IN CASE A (`scf.if` 0 taken, `scf.if` 1 taken, `scf.if` 2 not taken, `scf.if` 3 not taken, `scf.if` 4 not taken, `scf.if` 5 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7) at anything, handed back at some contents nothing names. -/
noncomputable def kernelRun0_A (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : cond0_0 i) (hc1 : cond0_1 i) (hc2 : ¬cond0_2 i) (hc3 : ¬cond0_3 i) (hc4 : ¬cond0_4 i) (hc5 : ¬cond0_5 i)
    (x0 : Vec F S1x128x4096 .bf16) (x1 : Vec F S1x640x2048 .bf16) (x2 : Vec F S1x128x2048 .bf16) :
    { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS0) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_attn_eq_skeleton]; unfold cc0_attn_skel
    simp only [k0_part59_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Gen

end
-- ==== Proof.FrameKernel.RunB.lean ====
/- (The text of a generated frame module, kept here as it stood.) the whole-body RUN of `proofs.«01_k».proof.Kernel`'s kernel in
   case B of its frame certificate (`Gen.kernelRun0_B`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.FrameKernel.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3012000 in
/-- What the body's stores leave in each output's staging memref, as pieces (last first) IN CASE B (`scf.if` 0 not taken, `scf.if` 1 not taken, `scf.if` 2 taken, `scf.if` 3 not taken, `scf.if` 4 not taken, `scf.if` 5 not taken: points 1, 6, 11), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7) at anything, handed back at some contents nothing names. -/
noncomputable def kernelRun0_B (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : ¬cond0_1 i) (hc2 : cond0_2 i) (hc3 : ¬cond0_3 i) (hc4 : ¬cond0_4 i) (hc5 : ¬cond0_5 i)
    (x0 : Vec F S1x128x4096 .bf16) (x1 : Vec F S1x640x2048 .bf16) (x2 : Vec F S1x128x2048 .bf16) (xs0 : Vec F S1x2048 .f32) :
    { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], fun E K => ?run⟩
  case run =>
    simp only [cc0_attn_eq_skeleton]; unfold cc0_attn_skel
    simp only [k0_part119_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg10.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg10.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Gen

end
-- ==== Proof.FrameKernel.RunC.lean ====
/- (The text of a generated frame module, kept here as it stood.) the whole-body RUN of `proofs.«01_k».proof.Kernel`'s kernel in
   case C of its frame certificate (`Gen.kernelRun0_C`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.FrameKernel.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3180000 in
/-- What the body's stores leave in each output's staging memref, as pieces (last first) IN CASE C (`scf.if` 0 not taken, `scf.if` 1 not taken, `scf.if` 2 not taken, `scf.if` 3 taken, `scf.if` 4 not taken, `scf.if` 5 not taken: points 2, 7, 12), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7) at anything, handed back at some contents nothing names. -/
noncomputable def kernelRun0_C (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : ¬cond0_1 i) (hc2 : ¬cond0_2 i) (hc3 : cond0_3 i) (hc4 : ¬cond0_4 i) (hc5 : ¬cond0_5 i)
    (x0 : Vec F S1x128x4096 .bf16) (x1 : Vec F S1x640x2048 .bf16) (x2 : Vec F S1x128x2048 .bf16) (xs0 : Vec F S1x2048 .f32) :
    { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], fun E K => ?run⟩
  case run =>
    simp only [cc0_attn_eq_skeleton]; unfold cc0_attn_skel
    simp only [k0_part184_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg10.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg10.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Gen

end
-- ==== Proof.FrameKernel.RunD.lean ====
/- (The text of a generated frame module, kept here as it stood.) the whole-body RUN of `proofs.«01_k».proof.Kernel`'s kernel in
   case D of its frame certificate (`Gen.kernelRun0_D`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.FrameKernel.RunC

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3348000 in
/-- What the body's stores leave in each output's staging memref, as pieces (last first) IN CASE D (`scf.if` 0 not taken, `scf.if` 1 not taken, `scf.if` 2 not taken, `scf.if` 3 not taken, `scf.if` 4 taken, `scf.if` 5 not taken: points 3, 8, 13), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7) at anything, handed back at some contents nothing names. -/
noncomputable def kernelRun0_D (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : ¬cond0_1 i) (hc2 : ¬cond0_2 i) (hc3 : ¬cond0_3 i) (hc4 : cond0_4 i) (hc5 : ¬cond0_5 i)
    (x0 : Vec F S1x128x4096 .bf16) (x1 : Vec F S1x640x2048 .bf16) (x2 : Vec F S1x128x2048 .bf16) (xs0 : Vec F S1x2048 .f32) :
    { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], fun E K => ?run⟩
  case run =>
    simp only [cc0_attn_eq_skeleton]; unfold cc0_attn_skel
    simp only [k0_part253_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg10.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg10.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Gen

end
-- ==== Proof.FrameKernel.RunE.lean ====
/- (The text of a generated frame module, kept here as it stood.) the whole-body RUN of `proofs.«01_k».proof.Kernel`'s kernel in
   case E of its frame certificate (`Gen.kernelRun0_E`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.FrameKernel.RunD

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3496000 in
/-- What the body's stores leave in each output's staging memref, as pieces (last first) IN CASE E (`scf.if` 0 not taken, `scf.if` 1 not taken, `scf.if` 2 not taken, `scf.if` 3 not taken, `scf.if` 4 not taken, `scf.if` 5 taken: points 4, 9, 14), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7) at anything, handed back at some contents nothing names. -/
noncomputable def kernelRun0_E (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : ¬cond0_1 i) (hc2 : ¬cond0_2 i) (hc3 : ¬cond0_3 i) (hc4 : ¬cond0_4 i) (hc5 : cond0_5 i)
    (x0 : Vec F S1x128x4096 .bf16) (x1 : Vec F S1x640x2048 .bf16) (x2 : Vec F S1x128x2048 .bf16) (xs0 : Vec F S1x2048 .f32) :
    { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], fun E K => ?run⟩
  case run =>
    simp only [cc0_attn_eq_skeleton]; unfold cc0_attn_skel
    simp only [k0_part326_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg10.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg10.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Gen

end
-- ==== Proof.FrameKernel.RunF.lean ====
/- (The text of a generated frame module, kept here as it stood.) the whole-body RUN of `proofs.«01_k».proof.Kernel`'s kernel in
   case F of its frame certificate (`Gen.kernelRun0_F`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.FrameKernel.RunE

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3060000 in
/-- What the body's stores leave in each output's staging memref, as pieces (last first) IN CASE F (`scf.if` 0 not taken, `scf.if` 1 taken, `scf.if` 2 not taken, `scf.if` 3 not taken, `scf.if` 4 not taken, `scf.if` 5 not taken: points 5, 10), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7) at anything, handed back at some contents nothing names. -/
noncomputable def kernelRun0_F (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : cond0_1 i) (hc2 : ¬cond0_2 i) (hc3 : ¬cond0_3 i) (hc4 : ¬cond0_4 i) (hc5 : ¬cond0_5 i)
    (x0 : Vec F S1x128x4096 .bf16) (x1 : Vec F S1x640x2048 .bf16) (x2 : Vec F S1x128x2048 .bf16) :
    { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS0) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_attn_eq_skeleton]; unfold cc0_attn_skel
    simp only [k0_part59_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Gen

end
-- ==== Proof.FrameKernel.lean ====
/- (The text of a generated frame module, kept here as it stood.) the FRAME CERTIFICATE of `proofs.«01_k».proof.Kernel`,
   its last module — (the outputs' contents FORGOTTEN, stated nowhere) what a carried scratch, if any, holds point by point
   (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs and
   a scratch accumulator CARRIED between points (stored whole at the grid's first point, its contents after each point stated), `scf.if`s on the coordinates admitted — framerun.py), its OUTPUTS FORGOTTEN (windows 3, 4, 5, 6, 7: nothing in the directory reads what the kernel leaves there —
   Lib/Pipeline/Dat.lean `Dat.toRForget`), the whole certificate: the body's triple per case (`Gen.kernelRunK_κ`, by
   `sl_exec`; each output handed back at some contents, nothing of it named), the conditions in closed form (`Gen.hcondK_J`), what the carried scratch holds point by point (`Gen.outsAtK`),
   the proof data (the outputs at `Dat.unnamed`), the obligation over `Gen.forgetsK`, the run (`Gen.run_main`, by
   `θ_run_frame_around_T_track_forget`) and `Gen.frame` — the frame claim at any `F`: Proof.lean is
   `theorem Cert.Proof.claim : Cert.Claim := ⟨Gen.facts, fun m ρ _ => Gen.frame m ρ⟩`.
   CLASS R (6 cases of its conditionals, 7 scratch operands, scratch `arg10` carried between points, outputs 3, 4, 5, 6, 7 FORGOTTEN — nothing reads them, so nothing of their contents is named): the certificate is whole here — not class A: the kernel takes operands the pipeline does not stage (scratch, semaphores, tables, arrays left in HBM). -/
module

public import proofs.«01_k».proof.Proof.FrameKernel.RunF
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg10`, which the kernel carries between points, cover it: 8 pieces of `S1x256` tiling it (Lib/Ring.lean `Piece.tiledL`). -/
theorem scover0_A_0 (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : cond0_0 i) (hc1 : cond0_1 i) (hc2 : ¬cond0_2 i) (hc3 : ¬cond0_3 i) (hc4 : ¬cond0_4 i) (hc5 : ¬cond0_5 i)
    (x0 : Vec F S1x128x4096 .bf16) (x1 : Vec F S1x640x2048 .bf16) (x2 : Vec F S1x128x2048 .bf16) (y : S1x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 x0 x1 x2).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 x0 x1 x2).1 S1x256.size (by sl_kernel_rfl) y

/-- What case A leaves in scratch `arg10`: its pieces read back over junk. -/
def sout0_A_0 (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : cond0_0 i) (hc1 : cond0_1 i) (hc2 : ¬cond0_2 i) (hc3 : ¬cond0_3 i) (hc4 : ¬cond0_4 i) (hc5 : ¬cond0_5 i)
    (x0 : Vec F S1x128x4096 .bf16) (x1 : Vec F S1x640x2048 .bf16) (x2 : Vec F S1x128x2048 .bf16) : Vec F S1x2048 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 x0 x1 x2).1)

/-- Case B stores nothing into scratch `arg10`: it holds what the point before left. -/
def sout0_B_0 (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : ¬cond0_1 i) (hc2 : cond0_2 i) (hc3 : ¬cond0_3 i) (hc4 : ¬cond0_4 i) (hc5 : ¬cond0_5 i)
    (x0 : Vec F S1x128x4096 .bf16) (x1 : Vec F S1x640x2048 .bf16) (x2 : Vec F S1x128x2048 .bf16) (xs0 : Vec F S1x2048 .f32) : Vec F S1x2048 .f32 := xs0

/-- Case C stores nothing into scratch `arg10`: it holds what the point before left. -/
def sout0_C_0 (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : ¬cond0_1 i) (hc2 : ¬cond0_2 i) (hc3 : cond0_3 i) (hc4 : ¬cond0_4 i) (hc5 : ¬cond0_5 i)
    (x0 : Vec F S1x128x4096 .bf16) (x1 : Vec F S1x640x2048 .bf16) (x2 : Vec F S1x128x2048 .bf16) (xs0 : Vec F S1x2048 .f32) : Vec F S1x2048 .f32 := xs0

/-- Case D stores nothing into scratch `arg10`: it holds what the point before left. -/
def sout0_D_0 (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : ¬cond0_1 i) (hc2 : ¬cond0_2 i) (hc3 : ¬cond0_3 i) (hc4 : cond0_4 i) (hc5 : ¬cond0_5 i)
    (x0 : Vec F S1x128x4096 .bf16) (x1 : Vec F S1x640x2048 .bf16) (x2 : Vec F S1x128x2048 .bf16) (xs0 : Vec F S1x2048 .f32) : Vec F S1x2048 .f32 := xs0

/-- Case E stores nothing into scratch `arg10`: it holds what the point before left. -/
def sout0_E_0 (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : ¬cond0_1 i) (hc2 : ¬cond0_2 i) (hc3 : ¬cond0_3 i) (hc4 : ¬cond0_4 i) (hc5 : cond0_5 i)
    (x0 : Vec F S1x128x4096 .bf16) (x1 : Vec F S1x640x2048 .bf16) (x2 : Vec F S1x128x2048 .bf16) (xs0 : Vec F S1x2048 .f32) : Vec F S1x2048 .f32 := xs0

/-- Case F's pieces for scratch `arg10`, which the kernel carries between points, cover it: 8 pieces of `S1x256` tiling it (Lib/Ring.lean `Piece.tiledL`). -/
theorem scover0_F_0 (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : cond0_1 i) (hc2 : ¬cond0_2 i) (hc3 : ¬cond0_3 i) (hc4 : ¬cond0_4 i) (hc5 : ¬cond0_5 i)
    (x0 : Vec F S1x128x4096 .bf16) (x1 : Vec F S1x640x2048 .bf16) (x2 : Vec F S1x128x2048 .bf16) (y : S1x2048.Idx) :
    ∃ pc ∈ (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 x0 x1 x2).1, y ∈ pc.1.set :=
  View.cover_of_tiledL (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 x0 x1 x2).1 S1x256.size (by sl_kernel_rfl) y

/-- What case F leaves in scratch `arg10`: its pieces read back over junk. -/
def sout0_F_0 (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : cond0_1 i) (hc2 : ¬cond0_2 i) (hc3 : ¬cond0_3 i) (hc4 : ¬cond0_4 i) (hc5 : ¬cond0_5 i)
    (x0 : Vec F S1x128x4096 .bf16) (x1 : Vec F S1x640x2048 .bf16) (x2 : Vec F S1x128x2048 .bf16) : Vec F S1x2048 .f32 :=
  VS0_0.read (Elt F) (VS0_0.writes (Elt F) VS0_0.junk (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 x0 x1 x2).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x2048 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (fun h => (fun h => by (try dsimp only at h); omega) ((hcond0_5 ⟨0, hn⟩).mp h)) (iblk m c 0 ⟨0, hn⟩) (iblk m c 1 ⟨0, hn⟩) (iblk m c 2 ⟨0, hn⟩)
  | n + 1, hn =>
    if h0 : (n + 1) % 15 = 0 then
      if h1 : (n + 1) % 5 = 0 then
        if h2 : (n + 1) % 5 = 1 then
          False.elim (by have hN : n + 1 < 15 := lt_of_lt_of_eq hn (show cfg0.N = 15 from N_0); omega)
        else
          if h3 : (n + 1) % 5 = 2 then
            False.elim (by have hN : n + 1 < 15 := lt_of_lt_of_eq hn (show cfg0.N = 15 from N_0); omega)
          else
            if h4 : (n + 1) % 5 = 3 then
              False.elim (by have hN : n + 1 < 15 := lt_of_lt_of_eq hn (show cfg0.N = 15 from N_0); omega)
            else
              if h5 : (n + 1) % 5 = 4 then
                False.elim (by have hN : n + 1 < 15 := lt_of_lt_of_eq hn (show cfg0.N = 15 from N_0); omega)
              else
                sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩)
      else
        False.elim (by have hN : n + 1 < 15 := lt_of_lt_of_eq hn (show cfg0.N = 15 from N_0); omega)
    else
      if h1 : (n + 1) % 5 = 0 then
        if h2 : (n + 1) % 5 = 1 then
          False.elim (by have hN : n + 1 < 15 := lt_of_lt_of_eq hn (show cfg0.N = 15 from N_0); omega)
        else
          if h3 : (n + 1) % 5 = 2 then
            False.elim (by have hN : n + 1 < 15 := lt_of_lt_of_eq hn (show cfg0.N = 15 from N_0); omega)
          else
            if h4 : (n + 1) % 5 = 3 then
              False.elim (by have hN : n + 1 < 15 := lt_of_lt_of_eq hn (show cfg0.N = 15 from N_0); omega)
            else
              if h5 : (n + 1) % 5 = 4 then
                False.elim (by have hN : n + 1 < 15 := lt_of_lt_of_eq hn (show cfg0.N = 15 from N_0); omega)
              else
                sout0_F_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩)
      else
        if h2 : (n + 1) % 5 = 1 then
          if h3 : (n + 1) % 5 = 2 then
            False.elim (by have hN : n + 1 < 15 := lt_of_lt_of_eq hn (show cfg0.N = 15 from N_0); omega)
          else
            if h4 : (n + 1) % 5 = 3 then
              False.elim (by have hN : n + 1 < 15 := lt_of_lt_of_eq hn (show cfg0.N = 15 from N_0); omega)
            else
              if h5 : (n + 1) % 5 = 4 then
                False.elim (by have hN : n + 1 < 15 := lt_of_lt_of_eq hn (show cfg0.N = 15 from N_0); omega)
              else
                sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (outsAt0 c n (Nat.lt_of_succ_lt hn))
        else
          if h3 : (n + 1) % 5 = 2 then
            if h4 : (n + 1) % 5 = 3 then
              False.elim (by have hN : n + 1 < 15 := lt_of_lt_of_eq hn (show cfg0.N = 15 from N_0); omega)
            else
              if h5 : (n + 1) % 5 = 4 then
                False.elim (by have hN : n + 1 < 15 := lt_of_lt_of_eq hn (show cfg0.N = 15 from N_0); omega)
              else
                sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (outsAt0 c n (Nat.lt_of_succ_lt hn))
          else
            if h4 : (n + 1) % 5 = 3 then
              if h5 : (n + 1) % 5 = 4 then
                False.elim (by have hN : n + 1 < 15 := lt_of_lt_of_eq hn (show cfg0.N = 15 from N_0); omega)
              else
                sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (outsAt0 c n (Nat.lt_of_succ_lt hn))
            else
              if h5 : (n + 1) % 5 = 4 then
                sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (iblk m c 0 ⟨n + 1, hn⟩) (iblk m c 1 ⟨n + 1, hn⟩) (iblk m c 2 ⟨n + 1, hn⟩) (outsAt0 c n (Nat.lt_of_succ_lt hn))
              else
                False.elim (by have hN : n + 1 < 15 := lt_of_lt_of_eq hn (show cfg0.N = 15 from N_0); omega)

/-- `outsAt0` at a point of case A: that case's contents. -/
theorem outsAt0_A (c : Dev nD) (t : Fin cfg0.N) (h0 : t.val % 15 = 0) (h1 : t.val % 5 = 0) (h2 : ¬t.val % 5 = 1) (h3 : ¬t.val % 5 = 2) (h4 : ¬t.val % 5 = 3) (h5 : ¬t.val % 5 = 4) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) := by
  obtain ⟨n, hn⟩ := t
  cases n with
  | zero => exact rfl
  | succ n => exact (dif_pos h0).trans ((dif_pos h1).trans ((dif_neg h2).trans ((dif_neg h3).trans ((dif_neg h4).trans ((dif_neg h5).trans rfl)))))

/-- `outsAt0` at a point of case B: that case's contents, over what the point before left. -/
theorem outsAt0_B (c : Dev nD) (t : Fin cfg0.N) (h0 : ¬t.val % 15 = 0) (h1 : ¬t.val % 5 = 0) (h2 : t.val % 5 = 1) (h3 : ¬t.val % 5 = 2) (h4 : ¬t.val % 5 = 3) (h5 : ¬t.val % 5 = 4) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans ((dif_neg h5).trans rfl)))))

/-- `outsAt0` at a point of case C: that case's contents, over what the point before left. -/
theorem outsAt0_C (c : Dev nD) (t : Fin cfg0.N) (h0 : ¬t.val % 15 = 0) (h1 : ¬t.val % 5 = 0) (h2 : ¬t.val % 5 = 1) (h3 : t.val % 5 = 2) (h4 : ¬t.val % 5 = 3) (h5 : ¬t.val % 5 = 4) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans ((dif_neg h5).trans rfl)))))

/-- `outsAt0` at a point of case D: that case's contents, over what the point before left. -/
theorem outsAt0_D (c : Dev nD) (t : Fin cfg0.N) (h0 : ¬t.val % 15 = 0) (h1 : ¬t.val % 5 = 0) (h2 : ¬t.val % 5 = 1) (h3 : ¬t.val % 5 = 2) (h4 : t.val % 5 = 3) (h5 : ¬t.val % 5 = 4) :
    outsAt0 m c t.val t.isLt = sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans ((dif_neg h5).trans rfl)))))

/-- `outsAt0` at a point of case E: that case's contents, over what the point before left. -/
theorem outsAt0_E (c : Dev nD) (t : Fin cfg0.N) (h0 : ¬t.val % 15 = 0) (h1 : ¬t.val % 5 = 0) (h2 : ¬t.val % 5 = 1) (h3 : ¬t.val % 5 = 2) (h4 : ¬t.val % 5 = 3) (h5 : t.val % 5 = 4) :
    outsAt0 m c t.val t.isLt = sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_neg h4).trans ((dif_pos h5).trans rfl)))))

/-- `outsAt0` at a point of case F: that case's contents. -/
theorem outsAt0_F (c : Dev nD) (t : Fin cfg0.N) (h0 : ¬t.val % 15 = 0) (h1 : t.val % 5 = 0) (h2 : ¬t.val % 5 = 1) (h3 : ¬t.val % 5 = 2) (h4 : ¬t.val % 5 = 3) (h5 : ¬t.val % 5 = 4) :
    outsAt0 m c t.val t.isLt = sout0_F_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_neg h4).trans ((dif_neg h5).trans rfl)))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  cases n with
  | zero => exact absurd rfl hz
  | succ n => rfl

/-! ## The pipeline's proof data -/

/-- The output windows this certificate FORGETS (3, 4, 5, 6, 7): nothing reads what the kernel leaves in them, so nothing
    of it is named (Lib/Pipeline/Dat.lean `Dat.toRForget`). -/
def forgets0 : Fin 8 → Bool := fun w => w.val == 3 || w.val == 4 || w.val == 5 || w.val == 6 || w.val == 7

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 15 := lt_of_lt_of_eq t.isLt (show cfg0.N = 15 from N_0)
  by_cases h0 : t.val % 15 = 0
  · by_cases h1 : t.val % 5 = 0
    · by_cases h2 : t.val % 5 = 1
      · exfalso; omega
      · by_cases h3 : t.val % 5 = 2
        · exfalso; omega
        · by_cases h4 : t.val % 5 = 3
          · exfalso; omega
          · by_cases h5 : t.val % 5 = 4
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              by_cases hz : t.val = 0
              · rw [PhiS_castSucc m c t, PhiS_zero m c _ _ hz, PhiA0_eq]
                rw [outsAt0_A m c t h0 h1 h2 h3 h4 h5]
                unfold sout0_A_0
                iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_A c (grid0.coords t) _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t)).2 Set.univ _)
                isplitl [H0]; · iexact H0
                isplitl [H1]; · iexact H1
                isplitl [H2]; · iexact H2
                isplitl [H3]; · iexists _; iexact H3
                isplitl [H4]; · iexists _; iexact H4
                isplitl [H5]; · iexists _; iexact H5
                isplitl [H6]; · iexists _; iexact H6
                isplitl [H7]; · iexists _; iexact H7
                isplitl [HS0]; · iexact HS0
                isplitl [HS1]; · iexact HS1
                isplitl [HS2]; · iexact HS2
                isplitl [HS3]; · iexact HS3
                isplitl [HS4]; · iexact HS4
                isplitl [HS5]; · iexact HS5
                isplitl [HS6]; · iexact HS6
                iintro ⟨H0, H1, H2, H3, H4, H5, H6, H7, ⟨%es0, HS0⟩, HS1, HS2, HS3, HS4, HS5, HS6⟩
                isplitl [HS0 HS1 HS2 HS3 HS4 HS5 HS6 Hg]
                · isplitl [HS0 HS1 HS2 HS3 HS4 HS5 HS6]
                  · isplitl [HS0]
                    · unfold owns; iexists _; isplitr
                      swap; · iexact HS0
                      ipureintro; exact View.read_writes_of_cover _ _ _ _ _ (scover0_A_0 c _ _ _ _ _ _ _ _ _ _ _ _ _ _ _ _ _ _ _ _ _ _ _ _ _ _ _ _ _ _ _ _ _ _ _ _ _ _ _ _)
                    isplitl [HS1]
                    · iexact HS1
                    isplitl [HS2]
                    · iexact HS2
                    isplitl [HS3]
                    · iexact HS3
                    isplitl [HS4]
                    · iexact HS4
                    isplitl [HS5]
                    · iexact HS5
                    iexact HS6
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                iexact H7
              · exfalso; have hN : t.val < 15 := lt_of_lt_of_eq t.isLt (show cfg0.N = 15 from N_0); omega
    · exfalso; omega
  · by_cases h1 : t.val % 5 = 0
    · by_cases h2 : t.val % 5 = 1
      · exfalso; omega
      · by_cases h3 : t.val % 5 = 2
        · exfalso; omega
        · by_cases h4 : t.val % 5 = 3
          · exfalso; omega
          · by_cases h5 : t.val % 5 = 4
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              by_cases hz : t.val = 0
              · exfalso; have hN : t.val < 15 := lt_of_lt_of_eq t.isLt (show cfg0.N = 15 from N_0); omega
              · rw [PhiS_castSucc m c t, PhiS_pos m c _ _ hz]
                rw [outsAt0_F m c t h0 h1 h2 h3 h4 h5]
                unfold sout0_F_0
                iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_F c (grid0.coords t) _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t)).2 Set.univ _)
                isplitl [H0]; · iexact H0
                isplitl [H1]; · iexact H1
                isplitl [H2]; · iexact H2
                isplitl [H3]; · iexists _; iexact H3
                isplitl [H4]; · iexists _; iexact H4
                isplitl [H5]; · iexists _; iexact H5
                isplitl [H6]; · iexists _; iexact H6
                isplitl [H7]; · iexists _; iexact H7
                isplitl [HS0]; · iexists _; iexact HS0
                isplitl [HS1]; · iexact HS1
                isplitl [HS2]; · iexact HS2
                isplitl [HS3]; · iexact HS3
                isplitl [HS4]; · iexact HS4
                isplitl [HS5]; · iexact HS5
                isplitl [HS6]; · iexact HS6
                iintro ⟨H0, H1, H2, H3, H4, H5, H6, H7, ⟨%es0, HS0⟩, HS1, HS2, HS3, HS4, HS5, HS6⟩
                isplitl [HS0 HS1 HS2 HS3 HS4 HS5 HS6 Hg]
                · isplitl [HS0 HS1 HS2 HS3 HS4 HS5 HS6]
                  · isplitl [HS0]
                    · unfold owns; iexists _; isplitr
                      swap; · iexact HS0
                      ipureintro; exact View.read_writes_of_cover _ _ _ _ _ (scover0_F_0 c _ _ _ _ _ _ _ _ _ _ _ _ _ _ _ _ _ _ _ _ _ _ _ _ _ _ _ _ _ _ _ _ _ _ _ _ _ _ _ _)
                    isplitl [HS1]
                    · iexact HS1
                    isplitl [HS2]
                    · iexact HS2
                    isplitl [HS3]
                    · iexact HS3
                    isplitl [HS4]
                    · iexact HS4
                    isplitl [HS5]
                    · iexact HS5
                    iexact HS6
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                iexact H7
    · by_cases h2 : t.val % 5 = 1
      · by_cases h3 : t.val % 5 = 2
        · exfalso; omega
        · by_cases h4 : t.val % 5 = 3
          · exfalso; omega
          · by_cases h5 : t.val % 5 = 4
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              by_cases hz : t.val = 0
              · exfalso; have hN : t.val < 15 := lt_of_lt_of_eq t.isLt (show cfg0.N = 15 from N_0); omega
              · rw [PhiS_castSucc m c t, PhiS_pos m c _ _ hz]
                rw [outsAt0_B m c t h0 h1 h2 h3 h4 h5]
                unfold sout0_B_0
                iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) _).2 Set.univ _)
                isplitl [H0]; · iexact H0
                isplitl [H1]; · iexact H1
                isplitl [H2]; · iexact H2
                isplitl [H3]; · iexists _; iexact H3
                isplitl [H4]; · iexists _; iexact H4
                isplitl [H5]; · iexists _; iexact H5
                isplitl [H6]; · iexists _; iexact H6
                isplitl [H7]; · iexists _; iexact H7
                isplitl [HS0]; · iexact HS0
                isplitl [HS1]; · iexact HS1
                isplitl [HS2]; · iexact HS2
                isplitl [HS3]; · iexact HS3
                isplitl [HS4]; · iexact HS4
                isplitl [HS5]; · iexact HS5
                isplitl [HS6]; · iexact HS6
                iintro ⟨H0, H1, H2, H3, H4, H5, H6, H7, HS0, HS1, HS2, HS3, HS4, HS5, HS6⟩
                isplitl [HS0 HS1 HS2 HS3 HS4 HS5 HS6 Hg]
                · isplitl [HS0 HS1 HS2 HS3 HS4 HS5 HS6]
                  · isplitl [HS0]
                    · iexact HS0
                    isplitl [HS1]
                    · iexact HS1
                    isplitl [HS2]
                    · iexact HS2
                    isplitl [HS3]
                    · iexact HS3
                    isplitl [HS4]
                    · iexact HS4
                    isplitl [HS5]
                    · iexact HS5
                    iexact HS6
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                iexact H7
      · by_cases h3 : t.val % 5 = 2
        · by_cases h4 : t.val % 5 = 3
          · exfalso; omega
          · by_cases h5 : t.val % 5 = 4
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              by_cases hz : t.val = 0
              · exfalso; have hN : t.val < 15 := lt_of_lt_of_eq t.isLt (show cfg0.N = 15 from N_0); omega
              · rw [PhiS_castSucc m c t, PhiS_pos m c _ _ hz]
                rw [outsAt0_C m c t h0 h1 h2 h3 h4 h5]
                unfold sout0_C_0
                iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_C c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (iblk m c 0 t) (iblk m c 1 t) (iblk m c 2 t) _).2 Set.univ _)
                isplitl [H0]; · iexact H0
                isplitl [H1]; · iexact H1
                isplitl [H2]; · iexact H2
                isplitl [H3]; · iexists _; iexact H3
                isplitl [H4]; · iexists _; iexact H4
                isplitl [H5]; · iexists _; iexact H5
                isplitl [H6]; · iexists _; iexact H6
                isplitl [H7]; · iexists _; iexact H7
                isplitl [HS0]; · iexact HS0
                isplitl [HS1]; · iexact HS1
                isplitl [HS2]; · iexact HS2
                isplitl [HS3]; · iexact HS3
                isplitl [HS4]; · iexact HS4
                isplitl [HS5]; · iexact HS5
                isplitl [HS6]; · iexact HS6
                iintro ⟨H0, H1, H2, H3, H4, H5, H6, H7, HS0, HS1, HS2, HS3, HS4, HS5, HS6⟩
                isplitl [HS0 HS1 HS2 HS3 HS4 HS5 HS6 Hg]
                · isplitl [HS0 HS1 HS2 HS3 HS4 HS5 HS6]
                  · isplitl [HS0]
                    · iexact HS0
                    isplitl [HS1]
                    · iexact HS1
                    isplitl [HS2]
                    · iexact HS2
                    isplitl [HS3]
                    · iexact HS3
                    isplitl [HS4]
                    · iexact HS4
                    isplitl [HS5]
                    · iexact HS5
                    iexact HS6
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                iexact H7
        · by_cases h4 : t.val % 5 = 3
          · by_cases h5 : t.val % 5 = 4
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              by_cases hz : t.val = 0
              · exfalso; have hN : t.val < 15 := lt_of_lt_of_eq t.isLt (show cfg0.N = 15 from N_0); omega
              · rw [PhiS_castSucc m c t, PhiS_pos m c _ _ hz]
                rw [outsAt0_D m c t h0 h1 h2 h3 h4 h5]
                unfold sout0_D_0
                iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_D c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) _).2 Set.univ _)
                isplitl [H0]; · iexact H0
                isplitl [H1]; · iexact H1
                isplitl [H2]; · iexact H2
                isplitl [H3]; · iexists _; iexact H3
                isplitl [H4]; · iexists _; iexact H4
                isplitl [H5]; · iexists _; iexact H5
                isplitl [H6]; · iexists _; iexact H6
                isplitl [H7]; · iexists _; iexact H7
                isplitl [HS0]; · iexact HS0
                isplitl [HS1]; · iexact HS1
                isplitl [HS2]; · iexact HS2
                isplitl [HS3]; · iexact HS3
                isplitl [HS4]; · iexact HS4
                isplitl [HS5]; · iexact HS5
                isplitl [HS6]; · iexact HS6
                iintro ⟨H0, H1, H2, H3, H4, H5, H6, H7, HS0, HS1, HS2, HS3, HS4, HS5, HS6⟩
                isplitl [HS0 HS1 HS2 HS3 HS4 HS5 HS6 Hg]
                · isplitl [HS0 HS1 HS2 HS3 HS4 HS5 HS6]
                  · isplitl [HS0]
                    · iexact HS0
                    isplitl [HS1]
                    · iexact HS1
                    isplitl [HS2]
                    · iexact HS2
                    isplitl [HS3]
                    · iexact HS3
                    isplitl [HS4]
                    · iexact HS4
                    isplitl [HS5]
                    · iexact HS5
                    iexact HS6
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                iexact H7
          · by_cases h5 : t.val % 5 = 4
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              by_cases hz : t.val = 0
              · exfalso; have hN : t.val < 15 := lt_of_lt_of_eq t.isLt (show cfg0.N = 15 from N_0); omega
              · rw [PhiS_castSucc m c t, PhiS_pos m c _ _ hz]
                rw [outsAt0_E m c t h0 h1 h2 h3 h4 h5]
                unfold sout0_E_0
                iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_E c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (iblk m c 0 t) (iblk m c 1 t) (iblk m c 2 t) _).2 Set.univ _)
                isplitl [H0]; · iexact H0
                isplitl [H1]; · iexact H1
                isplitl [H2]; · iexact H2
                isplitl [H3]; · iexists _; iexact H3
                isplitl [H4]; · iexists _; iexact H4
                isplitl [H5]; · iexists _; iexact H5
                isplitl [H6]; · iexists _; iexact H6
                isplitl [H7]; · iexists _; iexact H7
                isplitl [HS0]; · iexact HS0
                isplitl [HS1]; · iexact HS1
                isplitl [HS2]; · iexact HS2
                isplitl [HS3]; · iexact HS3
                isplitl [HS4]; · iexact HS4
                isplitl [HS5]; · iexact HS5
                isplitl [HS6]; · iexact HS6
                iintro ⟨H0, H1, H2, H3, H4, H5, H6, H7, HS0, HS1, HS2, HS3, HS4, HS5, HS6⟩
                isplitl [HS0 HS1 HS2 HS3 HS4 HS5 HS6 Hg]
                · isplitl [HS0 HS1 HS2 HS3 HS4 HS5 HS6]
                  · isplitl [HS0]
                    · iexact HS0
                    isplitl [HS1]
                    · iexact HS1
                    isplitl [HS2]
                    · iexact HS2
                    isplitl [HS3]
                    · iexact HS3
                    isplitl [HS4]
                    · iexact HS4
                    isplitl [HS5]
                    · iexact HS5
                    iexact HS6
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                iexact H7
            · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 15 := N_0; omega)

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 3, 4, 5, 6, 7) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.FrameIdeal.Runs.lean ====
/- (The text of a generated frame module, kept here as it stood.) what the runs of `proofs.«01_k».proof.KernelIdeal`'s
   frame certificate share — the frame kit (`Gen.hmain`, `Gen.V`, `Gen.iblk`, `Gen.frame_of`) and everything the runs
   are stated over (the body's branch conditions in closed form over the points; where its windows are idle; the staging and
   scratch memrefs; side conditions assumed, `Gen.Hyps`; a ring's names and canonical forms) —, imported by the
   first case's run (Frame/Run<κ>.lean: each imports the one before it) and, through the last, by the Frame module
   (Frame.lean), which holds the rest of the certificate. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (none here). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v1, main_v2, main_v3, main_v4, main_v5, main_v6, main_v7, main_v8}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      (Pipeline.RDat.FramePostR.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 15 = 0 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 15 = 0)

/-- The condition of the body's `scf.if` 1 (`k0_h2`), from the grid coordinates (the skeleton's scalar
    chain substituted). -/
abbrev cond0_1 (i : grid0.Coords) : Prop := k0_cond2 i = 1#1
/-- It holds at the points ≡ 0 (mod 5) — by arithmetic of the point. -/
theorem hcond0_1 : ∀ t : Fin cfg0.N, cond0_1 (grid0.coords t) ↔ t.val % 5 = 0 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_1, k0_cond2, e0, e1]
    word_cmp
   : ∀ t : Fin grid0.N, cond0_1 (grid0.coords t) ↔ t.val % 5 = 0)

/-- The condition of the body's `scf.if` 2 (`k0_h3`), from the grid coordinates (the skeleton's scalar
    chain substituted). -/
abbrev cond0_2 (i : grid0.Coords) : Prop := k0_cond3 i = 1#1
/-- It holds at the points ≡ 1 (mod 5) — by arithmetic of the point. -/
theorem hcond0_2 : ∀ t : Fin cfg0.N, cond0_2 (grid0.coords t) ↔ t.val % 5 = 1 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_2, k0_cond3, e0, e1]
    word_cmp
   : ∀ t : Fin grid0.N, cond0_2 (grid0.coords t) ↔ t.val % 5 = 1)

/-- The condition of the body's `scf.if` 3 (`k0_h4`), from the grid coordinates (the skeleton's scalar
    chain substituted). -/
abbrev cond0_3 (i : grid0.Coords) : Prop := k0_cond4 i = 1#1
/-- It holds at the points ≡ 2 (mod 5) — by arithmetic of the point. -/
theorem hcond0_3 : ∀ t : Fin cfg0.N, cond0_3 (grid0.coords t) ↔ t.val % 5 = 2 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_3, k0_cond4, e0, e1]
    word_cmp
   : ∀ t : Fin grid0.N, cond0_3 (grid0.coords t) ↔ t.val % 5 = 2)

/-- The condition of the body's `scf.if` 4 (`k0_h5`), from the grid coordinates (the skeleton's scalar
    chain substituted). -/
abbrev cond0_4 (i : grid0.Coords) : Prop := k0_cond5 i = 1#1
/-- It holds at the points ≡ 3 (mod 5) — by arithmetic of the point. -/
theorem hcond0_4 : ∀ t : Fin cfg0.N, cond0_4 (grid0.coords t) ↔ t.val % 5 = 3 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_4, k0_cond5, e0, e1]
    word_cmp
   : ∀ t : Fin grid0.N, cond0_4 (grid0.coords t) ↔ t.val % 5 = 3)

/-- The condition of the body's `scf.if` 5 (`k0_h6`), from the grid coordinates (the skeleton's scalar
    chain substituted). -/
abbrev cond0_5 (i : grid0.Coords) : Prop := k0_cond6 i = 1#1
/-- It holds at the points ≡ 4 (mod 5) — by arithmetic of the point. -/
theorem hcond0_5 : ∀ t : Fin cfg0.N, cond0_5 (grid0.coords t) ↔ t.val % 5 = 4 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_5, k0_cond6, e0, e1]
    word_cmp
   : ∀ t : Fin grid0.N, cond0_5 (grid0.coords t) ↔ t.val % 5 = 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x128x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x640x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5x3x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x10 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1x2048 .f32 := Memref.whole cc0_scratch0
abbrev scM0_1 : Memref sig .tc .vmem S640x2048 .bf16 := Memref.whole cc0_scratch1
abbrev scM0_2 : Memref sig .tc .vmem S2048x640 .bf16 := Memref.whole cc0_scratch2
abbrev scM0_3 : Memref sig .tc .vmem S80x128 .f32 := Memref.whole cc0_scratch3
abbrev scM0_4 : Memref sig .tc .vmem S128x128 .f32 := Memref.whole cc0_scratch4
abbrev scM0_5 : Memref sig .tc .vmem S1024x128 .i32 := Memref.whole cc0_scratch5
abbrev scM0_6 : Memref sig .tc .vmem S512x128 .i32 := Memref.whole cc0_scratch6
/-- The scratch `arg10` the kernel carries between points, as a view: what it holds is stated through it. -/
abbrev VS0_0 : View sig .tc .vmem S1x2048 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Gen

end
-- ==== Proof.FrameIdeal.RunA.lean ====
/- (The text of a generated frame module, kept here as it stood.) the whole-body RUN of `proofs.«01_k».proof.KernelIdeal`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.FrameIdeal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3072000 in
/-- What the body's stores leave in each output's staging memref, as pieces (last first) IN CASE A (`scf.if` 0 taken, `scf.if` 1 taken, `scf.if` 2 not taken, `scf.if` 3 not taken, `scf.if` 4 not taken, `scf.if` 5 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7) at anything, handed back at some contents nothing names. -/
noncomputable def kernelRun0_A (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : cond0_0 i) (hc1 : cond0_1 i) (hc2 : ¬cond0_2 i) (hc3 : ¬cond0_3 i) (hc4 : ¬cond0_4 i) (hc5 : ¬cond0_5 i)
    (x0 : Vec F S1x128x4096 .bf16) (x1 : Vec F S1x640x2048 .bf16) (x2 : Vec F S1x128x2048 .bf16) :
    { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS0) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_attn_eq_skeleton]; unfold cc0_attn_skel
    simp only [k0_part59_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Gen

end
-- ==== Proof.FrameIdeal.RunB.lean ====
/- (The text of a generated frame module, kept here as it stood.) the whole-body RUN of `proofs.«01_k».proof.KernelIdeal`'s kernel in
   case B of its frame certificate (`Gen.kernelRun0_B`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.FrameIdeal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3012000 in
/-- What the body's stores leave in each output's staging memref, as pieces (last first) IN CASE B (`scf.if` 0 not taken, `scf.if` 1 not taken, `scf.if` 2 taken, `scf.if` 3 not taken, `scf.if` 4 not taken, `scf.if` 5 not taken: points 1, 6, 11), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7) at anything, handed back at some contents nothing names. -/
noncomputable def kernelRun0_B (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : ¬cond0_1 i) (hc2 : cond0_2 i) (hc3 : ¬cond0_3 i) (hc4 : ¬cond0_4 i) (hc5 : ¬cond0_5 i)
    (x0 : Vec F S1x128x4096 .bf16) (x1 : Vec F S1x640x2048 .bf16) (x2 : Vec F S1x128x2048 .bf16) (xs0 : Vec F S1x2048 .f32) :
    { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], fun E K => ?run⟩
  case run =>
    simp only [cc0_attn_eq_skeleton]; unfold cc0_attn_skel
    simp only [k0_part119_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg10.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg10.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Gen

end
-- ==== Proof.FrameIdeal.RunC.lean ====
/- (The text of a generated frame module, kept here as it stood.) the whole-body RUN of `proofs.«01_k».proof.KernelIdeal`'s kernel in
   case C of its frame certificate (`Gen.kernelRun0_C`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.FrameIdeal.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3180000 in
/-- What the body's stores leave in each output's staging memref, as pieces (last first) IN CASE C (`scf.if` 0 not taken, `scf.if` 1 not taken, `scf.if` 2 not taken, `scf.if` 3 taken, `scf.if` 4 not taken, `scf.if` 5 not taken: points 2, 7, 12), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7) at anything, handed back at some contents nothing names. -/
noncomputable def kernelRun0_C (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : ¬cond0_1 i) (hc2 : ¬cond0_2 i) (hc3 : cond0_3 i) (hc4 : ¬cond0_4 i) (hc5 : ¬cond0_5 i)
    (x0 : Vec F S1x128x4096 .bf16) (x1 : Vec F S1x640x2048 .bf16) (x2 : Vec F S1x128x2048 .bf16) (xs0 : Vec F S1x2048 .f32) :
    { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], fun E K => ?run⟩
  case run =>
    simp only [cc0_attn_eq_skeleton]; unfold cc0_attn_skel
    simp only [k0_part184_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg10.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg10.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Gen

end
-- ==== Proof.FrameIdeal.RunD.lean ====
/- (The text of a generated frame module, kept here as it stood.) the whole-body RUN of `proofs.«01_k».proof.KernelIdeal`'s kernel in
   case D of its frame certificate (`Gen.kernelRun0_D`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.FrameIdeal.RunC

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3348000 in
/-- What the body's stores leave in each output's staging memref, as pieces (last first) IN CASE D (`scf.if` 0 not taken, `scf.if` 1 not taken, `scf.if` 2 not taken, `scf.if` 3 not taken, `scf.if` 4 taken, `scf.if` 5 not taken: points 3, 8, 13), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7) at anything, handed back at some contents nothing names. -/
noncomputable def kernelRun0_D (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : ¬cond0_1 i) (hc2 : ¬cond0_2 i) (hc3 : ¬cond0_3 i) (hc4 : cond0_4 i) (hc5 : ¬cond0_5 i)
    (x0 : Vec F S1x128x4096 .bf16) (x1 : Vec F S1x640x2048 .bf16) (x2 : Vec F S1x128x2048 .bf16) (xs0 : Vec F S1x2048 .f32) :
    { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], fun E K => ?run⟩
  case run =>
    simp only [cc0_attn_eq_skeleton]; unfold cc0_attn_skel
    simp only [k0_part253_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg10.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg10.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Gen

end
-- ==== Proof.FrameIdeal.RunE.lean ====
/- (The text of a generated frame module, kept here as it stood.) the whole-body RUN of `proofs.«01_k».proof.KernelIdeal`'s kernel in
   case E of its frame certificate (`Gen.kernelRun0_E`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.FrameIdeal.RunD

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3496000 in
/-- What the body's stores leave in each output's staging memref, as pieces (last first) IN CASE E (`scf.if` 0 not taken, `scf.if` 1 not taken, `scf.if` 2 not taken, `scf.if` 3 not taken, `scf.if` 4 not taken, `scf.if` 5 taken: points 4, 9, 14), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7) at anything, handed back at some contents nothing names. -/
noncomputable def kernelRun0_E (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : ¬cond0_1 i) (hc2 : ¬cond0_2 i) (hc3 : ¬cond0_3 i) (hc4 : ¬cond0_4 i) (hc5 : cond0_5 i)
    (x0 : Vec F S1x128x4096 .bf16) (x1 : Vec F S1x640x2048 .bf16) (x2 : Vec F S1x128x2048 .bf16) (xs0 : Vec F S1x2048 .f32) :
    { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], fun E K => ?run⟩
  case run =>
    simp only [cc0_attn_eq_skeleton]; unfold cc0_attn_skel
    simp only [k0_part326_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg10.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg10.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Gen

end
-- ==== Proof.FrameIdeal.RunF.lean ====
/- (The text of a generated frame module, kept here as it stood.) the whole-body RUN of `proofs.«01_k».proof.KernelIdeal`'s kernel in
   case F of its frame certificate (`Gen.kernelRun0_F`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.FrameIdeal.RunE

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3060000 in
/-- What the body's stores leave in each output's staging memref, as pieces (last first) IN CASE F (`scf.if` 0 not taken, `scf.if` 1 taken, `scf.if` 2 not taken, `scf.if` 3 not taken, `scf.if` 4 not taken, `scf.if` 5 not taken: points 5, 10), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7) at anything, handed back at some contents nothing names. -/
noncomputable def kernelRun0_F (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : cond0_1 i) (hc2 : ¬cond0_2 i) (hc3 : ¬cond0_3 i) (hc4 : ¬cond0_4 i) (hc5 : ¬cond0_5 i)
    (x0 : Vec F S1x128x4096 .bf16) (x1 : Vec F S1x640x2048 .bf16) (x2 : Vec F S1x128x2048 .bf16) :
    { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS0) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_attn_eq_skeleton]; unfold cc0_attn_skel
    simp only [k0_part59_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Gen

end
-- ==== Proof.FrameIdeal.lean ====
/- (The text of a generated frame module, kept here as it stood.) the FRAME CERTIFICATE of `proofs.«01_k».proof.KernelIdeal`,
   its last module — (the outputs' contents FORGOTTEN, stated nowhere) what a carried scratch, if any, holds point by point
   (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs and
   a scratch accumulator CARRIED between points (stored whole at the grid's first point, its contents after each point stated), `scf.if`s on the coordinates admitted — framerun.py), its OUTPUTS FORGOTTEN (windows 3, 4, 5, 6, 7: nothing in the directory reads what the kernel leaves there —
   Lib/Pipeline/Dat.lean `Dat.toRForget`), the whole certificate: the body's triple per case (`Gen.kernelRunK_κ`, by
   `sl_exec`; each output handed back at some contents, nothing of it named), the conditions in closed form (`Gen.hcondK_J`), what the carried scratch holds point by point (`Gen.outsAtK`),
   the proof data (the outputs at `Dat.unnamed`), the obligation over `Gen.forgetsK`, the run (`Gen.run_main`, by
   `θ_run_frame_around_T_track_forget`) and `Gen.frame` — the frame claim at any `F`: Proof.lean is
   `theorem Cert.Proof.claim : Cert.Claim := ⟨Gen.facts, fun m ρ _ => Gen.frame m ρ⟩`.
   CLASS R (6 cases of its conditionals, 7 scratch operands, scratch `arg10` carried between points, outputs 3, 4, 5, 6, 7 FORGOTTEN — nothing reads them, so nothing of their contents is named): the certificate is whole here — not class A: the kernel takes operands the pipeline does not stage (scratch, semaphores, tables, arrays left in HBM). -/
module

public import proofs.«01_k».proof.Proof.FrameIdeal.RunF
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for scratch `arg10`, which the kernel carries between points, cover it: 8 pieces of `S1x256` tiling it (Lib/Ring.lean `Piece.tiledL`). -/
theorem scover0_A_0 (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : cond0_0 i) (hc1 : cond0_1 i) (hc2 : ¬cond0_2 i) (hc3 : ¬cond0_3 i) (hc4 : ¬cond0_4 i) (hc5 : ¬cond0_5 i)
    (x0 : Vec F S1x128x4096 .bf16) (x1 : Vec F S1x640x2048 .bf16) (x2 : Vec F S1x128x2048 .bf16) (y : S1x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 x0 x1 x2).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 x0 x1 x2).1 S1x256.size (by sl_kernel_rfl) y

/-- What case A leaves in scratch `arg10`: its pieces read back over junk. -/
def sout0_A_0 (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : cond0_0 i) (hc1 : cond0_1 i) (hc2 : ¬cond0_2 i) (hc3 : ¬cond0_3 i) (hc4 : ¬cond0_4 i) (hc5 : ¬cond0_5 i)
    (x0 : Vec F S1x128x4096 .bf16) (x1 : Vec F S1x640x2048 .bf16) (x2 : Vec F S1x128x2048 .bf16) : Vec F S1x2048 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 x0 x1 x2).1)

/-- Case B stores nothing into scratch `arg10`: it holds what the point before left. -/
def sout0_B_0 (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : ¬cond0_1 i) (hc2 : cond0_2 i) (hc3 : ¬cond0_3 i) (hc4 : ¬cond0_4 i) (hc5 : ¬cond0_5 i)
    (x0 : Vec F S1x128x4096 .bf16) (x1 : Vec F S1x640x2048 .bf16) (x2 : Vec F S1x128x2048 .bf16) (xs0 : Vec F S1x2048 .f32) : Vec F S1x2048 .f32 := xs0

/-- Case C stores nothing into scratch `arg10`: it holds what the point before left. -/
def sout0_C_0 (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : ¬cond0_1 i) (hc2 : ¬cond0_2 i) (hc3 : cond0_3 i) (hc4 : ¬cond0_4 i) (hc5 : ¬cond0_5 i)
    (x0 : Vec F S1x128x4096 .bf16) (x1 : Vec F S1x640x2048 .bf16) (x2 : Vec F S1x128x2048 .bf16) (xs0 : Vec F S1x2048 .f32) : Vec F S1x2048 .f32 := xs0

/-- Case D stores nothing into scratch `arg10`: it holds what the point before left. -/
def sout0_D_0 (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : ¬cond0_1 i) (hc2 : ¬cond0_2 i) (hc3 : ¬cond0_3 i) (hc4 : cond0_4 i) (hc5 : ¬cond0_5 i)
    (x0 : Vec F S1x128x4096 .bf16) (x1 : Vec F S1x640x2048 .bf16) (x2 : Vec F S1x128x2048 .bf16) (xs0 : Vec F S1x2048 .f32) : Vec F S1x2048 .f32 := xs0

/-- Case E stores nothing into scratch `arg10`: it holds what the point before left. -/
def sout0_E_0 (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : ¬cond0_1 i) (hc2 : ¬cond0_2 i) (hc3 : ¬cond0_3 i) (hc4 : ¬cond0_4 i) (hc5 : cond0_5 i)
    (x0 : Vec F S1x128x4096 .bf16) (x1 : Vec F S1x640x2048 .bf16) (x2 : Vec F S1x128x2048 .bf16) (xs0 : Vec F S1x2048 .f32) : Vec F S1x2048 .f32 := xs0

/-- Case F's pieces for scratch `arg10`, which the kernel carries between points, cover it: 8 pieces of `S1x256` tiling it (Lib/Ring.lean `Piece.tiledL`). -/
theorem scover0_F_0 (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : cond0_1 i) (hc2 : ¬cond0_2 i) (hc3 : ¬cond0_3 i) (hc4 : ¬cond0_4 i) (hc5 : ¬cond0_5 i)
    (x0 : Vec F S1x128x4096 .bf16) (x1 : Vec F S1x640x2048 .bf16) (x2 : Vec F S1x128x2048 .bf16) (y : S1x2048.Idx) :
    ∃ pc ∈ (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 x0 x1 x2).1, y ∈ pc.1.set :=
  View.cover_of_tiledL (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 x0 x1 x2).1 S1x256.size (by sl_kernel_rfl) y

/-- What case F leaves in scratch `arg10`: its pieces read back over junk. -/
def sout0_F_0 (c : Dev nD) (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hc0 : ¬cond0_0 i) (hc1 : cond0_1 i) (hc2 : ¬cond0_2 i) (hc3 : ¬cond0_3 i) (hc4 : ¬cond0_4 i) (hc5 : ¬cond0_5 i)
    (x0 : Vec F S1x128x4096 .bf16) (x1 : Vec F S1x640x2048 .bf16) (x2 : Vec F S1x128x2048 .bf16) : Vec F S1x2048 .f32 :=
  VS0_0.read (Elt F) (VS0_0.writes (Elt F) VS0_0.junk (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 x0 x1 x2).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x2048 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (fun h => (fun h => by (try dsimp only at h); omega) ((hcond0_5 ⟨0, hn⟩).mp h)) (iblk m c 0 ⟨0, hn⟩) (iblk m c 1 ⟨0, hn⟩) (iblk m c 2 ⟨0, hn⟩)
  | n + 1, hn =>
    if h0 : (n + 1) % 15 = 0 then
      if h1 : (n + 1) % 5 = 0 then
        if h2 : (n + 1) % 5 = 1 then
          False.elim (by have hN : n + 1 < 15 := lt_of_lt_of_eq hn (show cfg0.N = 15 from N_0); omega)
        else
          if h3 : (n + 1) % 5 = 2 then
            False.elim (by have hN : n + 1 < 15 := lt_of_lt_of_eq hn (show cfg0.N = 15 from N_0); omega)
          else
            if h4 : (n + 1) % 5 = 3 then
              False.elim (by have hN : n + 1 < 15 := lt_of_lt_of_eq hn (show cfg0.N = 15 from N_0); omega)
            else
              if h5 : (n + 1) % 5 = 4 then
                False.elim (by have hN : n + 1 < 15 := lt_of_lt_of_eq hn (show cfg0.N = 15 from N_0); omega)
              else
                sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩)
      else
        False.elim (by have hN : n + 1 < 15 := lt_of_lt_of_eq hn (show cfg0.N = 15 from N_0); omega)
    else
      if h1 : (n + 1) % 5 = 0 then
        if h2 : (n + 1) % 5 = 1 then
          False.elim (by have hN : n + 1 < 15 := lt_of_lt_of_eq hn (show cfg0.N = 15 from N_0); omega)
        else
          if h3 : (n + 1) % 5 = 2 then
            False.elim (by have hN : n + 1 < 15 := lt_of_lt_of_eq hn (show cfg0.N = 15 from N_0); omega)
          else
            if h4 : (n + 1) % 5 = 3 then
              False.elim (by have hN : n + 1 < 15 := lt_of_lt_of_eq hn (show cfg0.N = 15 from N_0); omega)
            else
              if h5 : (n + 1) % 5 = 4 then
                False.elim (by have hN : n + 1 < 15 := lt_of_lt_of_eq hn (show cfg0.N = 15 from N_0); omega)
              else
                sout0_F_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩)
      else
        if h2 : (n + 1) % 5 = 1 then
          if h3 : (n + 1) % 5 = 2 then
            False.elim (by have hN : n + 1 < 15 := lt_of_lt_of_eq hn (show cfg0.N = 15 from N_0); omega)
          else
            if h4 : (n + 1) % 5 = 3 then
              False.elim (by have hN : n + 1 < 15 := lt_of_lt_of_eq hn (show cfg0.N = 15 from N_0); omega)
            else
              if h5 : (n + 1) % 5 = 4 then
                False.elim (by have hN : n + 1 < 15 := lt_of_lt_of_eq hn (show cfg0.N = 15 from N_0); omega)
              else
                sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (outsAt0 c n (Nat.lt_of_succ_lt hn))
        else
          if h3 : (n + 1) % 5 = 2 then
            if h4 : (n + 1) % 5 = 3 then
              False.elim (by have hN : n + 1 < 15 := lt_of_lt_of_eq hn (show cfg0.N = 15 from N_0); omega)
            else
              if h5 : (n + 1) % 5 = 4 then
                False.elim (by have hN : n + 1 < 15 := lt_of_lt_of_eq hn (show cfg0.N = 15 from N_0); omega)
              else
                sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (outsAt0 c n (Nat.lt_of_succ_lt hn))
          else
            if h4 : (n + 1) % 5 = 3 then
              if h5 : (n + 1) % 5 = 4 then
                False.elim (by have hN : n + 1 < 15 := lt_of_lt_of_eq hn (show cfg0.N = 15 from N_0); omega)
              else
                sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (outsAt0 c n (Nat.lt_of_succ_lt hn))
            else
              if h5 : (n + 1) % 5 = 4 then
                sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (iblk m c 0 ⟨n + 1, hn⟩) (iblk m c 1 ⟨n + 1, hn⟩) (iblk m c 2 ⟨n + 1, hn⟩) (outsAt0 c n (Nat.lt_of_succ_lt hn))
              else
                False.elim (by have hN : n + 1 < 15 := lt_of_lt_of_eq hn (show cfg0.N = 15 from N_0); omega)

/-- `outsAt0` at a point of case A: that case's contents. -/
theorem outsAt0_A (c : Dev nD) (t : Fin cfg0.N) (h0 : t.val % 15 = 0) (h1 : t.val % 5 = 0) (h2 : ¬t.val % 5 = 1) (h3 : ¬t.val % 5 = 2) (h4 : ¬t.val % 5 = 3) (h5 : ¬t.val % 5 = 4) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) := by
  obtain ⟨n, hn⟩ := t
  cases n with
  | zero => exact rfl
  | succ n => exact (dif_pos h0).trans ((dif_pos h1).trans ((dif_neg h2).trans ((dif_neg h3).trans ((dif_neg h4).trans ((dif_neg h5).trans rfl)))))

/-- `outsAt0` at a point of case B: that case's contents, over what the point before left. -/
theorem outsAt0_B (c : Dev nD) (t : Fin cfg0.N) (h0 : ¬t.val % 15 = 0) (h1 : ¬t.val % 5 = 0) (h2 : t.val % 5 = 1) (h3 : ¬t.val % 5 = 2) (h4 : ¬t.val % 5 = 3) (h5 : ¬t.val % 5 = 4) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans ((dif_neg h5).trans rfl)))))

/-- `outsAt0` at a point of case C: that case's contents, over what the point before left. -/
theorem outsAt0_C (c : Dev nD) (t : Fin cfg0.N) (h0 : ¬t.val % 15 = 0) (h1 : ¬t.val % 5 = 0) (h2 : ¬t.val % 5 = 1) (h3 : t.val % 5 = 2) (h4 : ¬t.val % 5 = 3) (h5 : ¬t.val % 5 = 4) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans ((dif_neg h5).trans rfl)))))

/-- `outsAt0` at a point of case D: that case's contents, over what the point before left. -/
theorem outsAt0_D (c : Dev nD) (t : Fin cfg0.N) (h0 : ¬t.val % 15 = 0) (h1 : ¬t.val % 5 = 0) (h2 : ¬t.val % 5 = 1) (h3 : ¬t.val % 5 = 2) (h4 : t.val % 5 = 3) (h5 : ¬t.val % 5 = 4) :
    outsAt0 m c t.val t.isLt = sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans ((dif_neg h5).trans rfl)))))

/-- `outsAt0` at a point of case E: that case's contents, over what the point before left. -/
theorem outsAt0_E (c : Dev nD) (t : Fin cfg0.N) (h0 : ¬t.val % 15 = 0) (h1 : ¬t.val % 5 = 0) (h2 : ¬t.val % 5 = 1) (h3 : ¬t.val % 5 = 2) (h4 : ¬t.val % 5 = 3) (h5 : t.val % 5 = 4) :
    outsAt0 m c t.val t.isLt = sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_neg h4).trans ((dif_pos h5).trans rfl)))))

/-- `outsAt0` at a point of case F: that case's contents. -/
theorem outsAt0_F (c : Dev nD) (t : Fin cfg0.N) (h0 : ¬t.val % 15 = 0) (h1 : t.val % 5 = 0) (h2 : ¬t.val % 5 = 1) (h3 : ¬t.val % 5 = 2) (h4 : ¬t.val % 5 = 3) (h5 : ¬t.val % 5 = 4) :
    outsAt0 m c t.val t.isLt = sout0_F_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_neg h4).trans ((dif_neg h5).trans rfl)))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  cases n with
  | zero => exact absurd rfl hz
  | succ n => rfl

/-! ## The pipeline's proof data -/

/-- The output windows this certificate FORGETS (3, 4, 5, 6, 7): nothing reads what the kernel leaves in them, so nothing
    of it is named (Lib/Pipeline/Dat.lean `Dat.toRForget`). -/
def forgets0 : Fin 8 → Bool := fun w => w.val == 3 || w.val == 4 || w.val == 5 || w.val == 6 || w.val == 7

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 15 := lt_of_lt_of_eq t.isLt (show cfg0.N = 15 from N_0)
  by_cases h0 : t.val % 15 = 0
  · by_cases h1 : t.val % 5 = 0
    · by_cases h2 : t.val % 5 = 1
      · exfalso; omega
      · by_cases h3 : t.val % 5 = 2
        · exfalso; omega
        · by_cases h4 : t.val % 5 = 3
          · exfalso; omega
          · by_cases h5 : t.val % 5 = 4
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              by_cases hz : t.val = 0
              · rw [PhiS_castSucc m c t, PhiS_zero m c _ _ hz, PhiA0_eq]
                rw [outsAt0_A m c t h0 h1 h2 h3 h4 h5]
                unfold sout0_A_0
                iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_A c (grid0.coords t) _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t)).2 Set.univ _)
                isplitl [H0]; · iexact H0
                isplitl [H1]; · iexact H1
                isplitl [H2]; · iexact H2
                isplitl [H3]; · iexists _; iexact H3
                isplitl [H4]; · iexists _; iexact H4
                isplitl [H5]; · iexists _; iexact H5
                isplitl [H6]; · iexists _; iexact H6
                isplitl [H7]; · iexists _; iexact H7
                isplitl [HS0]; · iexact HS0
                isplitl [HS1]; · iexact HS1
                isplitl [HS2]; · iexact HS2
                isplitl [HS3]; · iexact HS3
                isplitl [HS4]; · iexact HS4
                isplitl [HS5]; · iexact HS5
                isplitl [HS6]; · iexact HS6
                iintro ⟨H0, H1, H2, H3, H4, H5, H6, H7, ⟨%es0, HS0⟩, HS1, HS2, HS3, HS4, HS5, HS6⟩
                isplitl [HS0 HS1 HS2 HS3 HS4 HS5 HS6 Hg]
                · isplitl [HS0 HS1 HS2 HS3 HS4 HS5 HS6]
                  · isplitl [HS0]
                    · unfold owns; iexists _; isplitr
                      swap; · iexact HS0
                      ipureintro; exact View.read_writes_of_cover _ _ _ _ _ (scover0_A_0 c _ _ _ _ _ _ _ _ _ _ _ _ _ _ _ _ _ _ _ _ _ _ _ _ _ _ _ _ _ _ _ _ _ _ _ _ _ _ _ _)
                    isplitl [HS1]
                    · iexact HS1
                    isplitl [HS2]
                    · iexact HS2
                    isplitl [HS3]
                    · iexact HS3
                    isplitl [HS4]
                    · iexact HS4
                    isplitl [HS5]
                    · iexact HS5
                    iexact HS6
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                iexact H7
              · exfalso; have hN : t.val < 15 := lt_of_lt_of_eq t.isLt (show cfg0.N = 15 from N_0); omega
    · exfalso; omega
  · by_cases h1 : t.val % 5 = 0
    · by_cases h2 : t.val % 5 = 1
      · exfalso; omega
      · by_cases h3 : t.val % 5 = 2
        · exfalso; omega
        · by_cases h4 : t.val % 5 = 3
          · exfalso; omega
          · by_cases h5 : t.val % 5 = 4
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              by_cases hz : t.val = 0
              · exfalso; have hN : t.val < 15 := lt_of_lt_of_eq t.isLt (show cfg0.N = 15 from N_0); omega
              · rw [PhiS_castSucc m c t, PhiS_pos m c _ _ hz]
                rw [outsAt0_F m c t h0 h1 h2 h3 h4 h5]
                unfold sout0_F_0
                iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_F c (grid0.coords t) _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t)).2 Set.univ _)
                isplitl [H0]; · iexact H0
                isplitl [H1]; · iexact H1
                isplitl [H2]; · iexact H2
                isplitl [H3]; · iexists _; iexact H3
                isplitl [H4]; · iexists _; iexact H4
                isplitl [H5]; · iexists _; iexact H5
                isplitl [H6]; · iexists _; iexact H6
                isplitl [H7]; · iexists _; iexact H7
                isplitl [HS0]; · iexists _; iexact HS0
                isplitl [HS1]; · iexact HS1
                isplitl [HS2]; · iexact HS2
                isplitl [HS3]; · iexact HS3
                isplitl [HS4]; · iexact HS4
                isplitl [HS5]; · iexact HS5
                isplitl [HS6]; · iexact HS6
                iintro ⟨H0, H1, H2, H3, H4, H5, H6, H7, ⟨%es0, HS0⟩, HS1, HS2, HS3, HS4, HS5, HS6⟩
                isplitl [HS0 HS1 HS2 HS3 HS4 HS5 HS6 Hg]
                · isplitl [HS0 HS1 HS2 HS3 HS4 HS5 HS6]
                  · isplitl [HS0]
                    · unfold owns; iexists _; isplitr
                      swap; · iexact HS0
                      ipureintro; exact View.read_writes_of_cover _ _ _ _ _ (scover0_F_0 c _ _ _ _ _ _ _ _ _ _ _ _ _ _ _ _ _ _ _ _ _ _ _ _ _ _ _ _ _ _ _ _ _ _ _ _ _ _ _ _)
                    isplitl [HS1]
                    · iexact HS1
                    isplitl [HS2]
                    · iexact HS2
                    isplitl [HS3]
                    · iexact HS3
                    isplitl [HS4]
                    · iexact HS4
                    isplitl [HS5]
                    · iexact HS5
                    iexact HS6
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                iexact H7
    · by_cases h2 : t.val % 5 = 1
      · by_cases h3 : t.val % 5 = 2
        · exfalso; omega
        · by_cases h4 : t.val % 5 = 3
          · exfalso; omega
          · by_cases h5 : t.val % 5 = 4
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              by_cases hz : t.val = 0
              · exfalso; have hN : t.val < 15 := lt_of_lt_of_eq t.isLt (show cfg0.N = 15 from N_0); omega
              · rw [PhiS_castSucc m c t, PhiS_pos m c _ _ hz]
                rw [outsAt0_B m c t h0 h1 h2 h3 h4 h5]
                unfold sout0_B_0
                iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) _).2 Set.univ _)
                isplitl [H0]; · iexact H0
                isplitl [H1]; · iexact H1
                isplitl [H2]; · iexact H2
                isplitl [H3]; · iexists _; iexact H3
                isplitl [H4]; · iexists _; iexact H4
                isplitl [H5]; · iexists _; iexact H5
                isplitl [H6]; · iexists _; iexact H6
                isplitl [H7]; · iexists _; iexact H7
                isplitl [HS0]; · iexact HS0
                isplitl [HS1]; · iexact HS1
                isplitl [HS2]; · iexact HS2
                isplitl [HS3]; · iexact HS3
                isplitl [HS4]; · iexact HS4
                isplitl [HS5]; · iexact HS5
                isplitl [HS6]; · iexact HS6
                iintro ⟨H0, H1, H2, H3, H4, H5, H6, H7, HS0, HS1, HS2, HS3, HS4, HS5, HS6⟩
                isplitl [HS0 HS1 HS2 HS3 HS4 HS5 HS6 Hg]
                · isplitl [HS0 HS1 HS2 HS3 HS4 HS5 HS6]
                  · isplitl [HS0]
                    · iexact HS0
                    isplitl [HS1]
                    · iexact HS1
                    isplitl [HS2]
                    · iexact HS2
                    isplitl [HS3]
                    · iexact HS3
                    isplitl [HS4]
                    · iexact HS4
                    isplitl [HS5]
                    · iexact HS5
                    iexact HS6
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                iexact H7
      · by_cases h3 : t.val % 5 = 2
        · by_cases h4 : t.val % 5 = 3
          · exfalso; omega
          · by_cases h5 : t.val % 5 = 4
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              by_cases hz : t.val = 0
              · exfalso; have hN : t.val < 15 := lt_of_lt_of_eq t.isLt (show cfg0.N = 15 from N_0); omega
              · rw [PhiS_castSucc m c t, PhiS_pos m c _ _ hz]
                rw [outsAt0_C m c t h0 h1 h2 h3 h4 h5]
                unfold sout0_C_0
                iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_C c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (iblk m c 0 t) (iblk m c 1 t) (iblk m c 2 t) _).2 Set.univ _)
                isplitl [H0]; · iexact H0
                isplitl [H1]; · iexact H1
                isplitl [H2]; · iexact H2
                isplitl [H3]; · iexists _; iexact H3
                isplitl [H4]; · iexists _; iexact H4
                isplitl [H5]; · iexists _; iexact H5
                isplitl [H6]; · iexists _; iexact H6
                isplitl [H7]; · iexists _; iexact H7
                isplitl [HS0]; · iexact HS0
                isplitl [HS1]; · iexact HS1
                isplitl [HS2]; · iexact HS2
                isplitl [HS3]; · iexact HS3
                isplitl [HS4]; · iexact HS4
                isplitl [HS5]; · iexact HS5
                isplitl [HS6]; · iexact HS6
                iintro ⟨H0, H1, H2, H3, H4, H5, H6, H7, HS0, HS1, HS2, HS3, HS4, HS5, HS6⟩
                isplitl [HS0 HS1 HS2 HS3 HS4 HS5 HS6 Hg]
                · isplitl [HS0 HS1 HS2 HS3 HS4 HS5 HS6]
                  · isplitl [HS0]
                    · iexact HS0
                    isplitl [HS1]
                    · iexact HS1
                    isplitl [HS2]
                    · iexact HS2
                    isplitl [HS3]
                    · iexact HS3
                    isplitl [HS4]
                    · iexact HS4
                    isplitl [HS5]
                    · iexact HS5
                    iexact HS6
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                iexact H7
        · by_cases h4 : t.val % 5 = 3
          · by_cases h5 : t.val % 5 = 4
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              by_cases hz : t.val = 0
              · exfalso; have hN : t.val < 15 := lt_of_lt_of_eq t.isLt (show cfg0.N = 15 from N_0); omega
              · rw [PhiS_castSucc m c t, PhiS_pos m c _ _ hz]
                rw [outsAt0_D m c t h0 h1 h2 h3 h4 h5]
                unfold sout0_D_0
                iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_D c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) _).2 Set.univ _)
                isplitl [H0]; · iexact H0
                isplitl [H1]; · iexact H1
                isplitl [H2]; · iexact H2
                isplitl [H3]; · iexists _; iexact H3
                isplitl [H4]; · iexists _; iexact H4
                isplitl [H5]; · iexists _; iexact H5
                isplitl [H6]; · iexists _; iexact H6
                isplitl [H7]; · iexists _; iexact H7
                isplitl [HS0]; · iexact HS0
                isplitl [HS1]; · iexact HS1
                isplitl [HS2]; · iexact HS2
                isplitl [HS3]; · iexact HS3
                isplitl [HS4]; · iexact HS4
                isplitl [HS5]; · iexact HS5
                isplitl [HS6]; · iexact HS6
                iintro ⟨H0, H1, H2, H3, H4, H5, H6, H7, HS0, HS1, HS2, HS3, HS4, HS5, HS6⟩
                isplitl [HS0 HS1 HS2 HS3 HS4 HS5 HS6 Hg]
                · isplitl [HS0 HS1 HS2 HS3 HS4 HS5 HS6]
                  · isplitl [HS0]
                    · iexact HS0
                    isplitl [HS1]
                    · iexact HS1
                    isplitl [HS2]
                    · iexact HS2
                    isplitl [HS3]
                    · iexact HS3
                    isplitl [HS4]
                    · iexact HS4
                    isplitl [HS5]
                    · iexact HS5
                    iexact HS6
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                iexact H7
          · by_cases h5 : t.val % 5 = 4
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              by_cases hz : t.val = 0
              · exfalso; have hN : t.val < 15 := lt_of_lt_of_eq t.isLt (show cfg0.N = 15 from N_0); omega
              · rw [PhiS_castSucc m c t, PhiS_pos m c _ _ hz]
                rw [outsAt0_E m c t h0 h1 h2 h3 h4 h5]
                unfold sout0_E_0
                iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_E c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (iblk m c 0 t) (iblk m c 1 t) (iblk m c 2 t) _).2 Set.univ _)
                isplitl [H0]; · iexact H0
                isplitl [H1]; · iexact H1
                isplitl [H2]; · iexact H2
                isplitl [H3]; · iexists _; iexact H3
                isplitl [H4]; · iexists _; iexact H4
                isplitl [H5]; · iexists _; iexact H5
                isplitl [H6]; · iexists _; iexact H6
                isplitl [H7]; · iexists _; iexact H7
                isplitl [HS0]; · iexact HS0
                isplitl [HS1]; · iexact HS1
                isplitl [HS2]; · iexact HS2
                isplitl [HS3]; · iexact HS3
                isplitl [HS4]; · iexact HS4
                isplitl [HS5]; · iexact HS5
                isplitl [HS6]; · iexact HS6
                iintro ⟨H0, H1, H2, H3, H4, H5, H6, H7, HS0, HS1, HS2, HS3, HS4, HS5, HS6⟩
                isplitl [HS0 HS1 HS2 HS3 HS4 HS5 HS6 Hg]
                · isplitl [HS0 HS1 HS2 HS3 HS4 HS5 HS6]
                  · isplitl [HS0]
                    · iexact HS0
                    isplitl [HS1]
                    · iexact HS1
                    isplitl [HS2]
                    · iexact HS2
                    isplitl [HS3]
                    · iexact HS3
                    isplitl [HS4]
                    · iexact HS4
                    isplitl [HS5]
                    · iexact HS5
                    iexact HS6
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                iexact H7
            · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 15 := N_0; omega)

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 3, 4, 5, 6, 7) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Act.lean ====
/-
  Straight-line kernel text with its meaning attached. An `Act` is a program of loads and stores on a fixed family of
  whole VMEM buffers, together with the function on the buffers' contents that it computes and the proof, in the
  program logic, that running the program from contents `σ` ends at the contents the function names. Acts compose, so
  a program written as an `Act` comes with its specification.
-/
module

public import proofs.«01_k».proof.Proof.Gen.KernelIdeal.Launch

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The buffers the kernel's body works on, by their part in it. -/
inductive B where
  | x | k | v | out | qc | qs | kc | ks | mean | kcode | vt | kscale | mask | qc32 | kc32
  deriving DecidableEq

/-- There are fifteen of them. -/
instance : Fintype B where
  elems := {.x, .k, .v, .out, .qc, .qs, .kc, .ks, .mean, .kcode, .vt, .kscale, .mask, .qc32, .kc32}
  complete b := by cases b <;> decide

/-- Each buffer's shape. -/
abbrev B.sh : B → Shape
  | .x => S1x128x4096 | .k => S1x640x2048 | .v => S1x128x2048 | .out => S1x128x4096 | .qc => S4096x128 | .qs => S5x3x16
  | .kc => S2048x128 | .ks => S1x8x10 | .mean => S1x2048 | .kcode => S640x2048 | .vt => S2048x640 | .kscale => S80x128
  | .mask => S128x128 | .qc32 => S1024x128 | .kc32 => S512x128

/-- Each buffer's element type. -/
abbrev B.el : B → EltTy
  | .x => .bf16 | .k => .bf16 | .v => .bf16 | .out => .bf16 | .qc => .i8 | .qs => .f32 | .kc => .i8 | .ks => .f32
  | .mean => .f32 | .kcode => .bf16 | .vt => .bf16 | .kscale => .f32 | .mask => .f32 | .qc32 => .i32 | .kc32 => .i32

/-- Contents of every buffer. -/
abbrev St (F : FTy → Type) : Type := (b : B) → b.sh.Idx → Elt F b.el

/-- A memref for every buffer. -/
abbrev Refs : Type := (b : B) → Memref sig .tc .vmem b.sh b.el

variable {F : FTy → Type} [FloatOps F] [Named F]

local notation "𝕄" => MT nD τ sig Unit (Elt F) ℕ (UR sig nD τ) ℕ

/-- Every buffer owned at its contents. -/
def holds (c : Dev nD) (R : Refs) (σ : St F) : sProp 𝕄 :=
  bigSep Finset.univ fun b => owns (c : Thread nD τ) (R b) fullShare (σ b)

/-- One buffer taken out. -/
theorem holds_split (c : Dev nD) (R : Refs) (σ : St F) (b : B) :
    (holds c R σ : sProp 𝕄) = iprop(owns (c : Thread nD τ) (R b) fullShare (σ b)
      ∗ bigSep (Finset.univ.erase b) fun b' => owns (c : Thread nD τ) (R b') fullShare (σ b')) :=
  bigSep_univ_split b

/-- A load from a memref owned at `X` continues at `X` under the coordinates read. -/
theorem owns_load (c : Dev nD) (E : Set ℕ) {α : Type} {s : Shape} {e : EltTy} (m : Memref sig .tc .vmem s e) (X : s.Idx → Elt F e)
    (r : LoadRect s) (hl : m.view.LoadsAt r) (k : (r.shape.Idx → Elt F e) → Prog (TpuEff nD τ sig (Elt F) Λ₀ .tc) α) (K : α → sProp 𝕄) :
    iprop(owns (c : Thread nD τ) m fullShare X
        ∗ (owns (c : Thread nD τ) m fullShare X -∗ wp frame (wpE (defs₀ (F := F)) Variants.none c none) E (k fun j => X (r.idx j)) K))
      ⊢ wp frame (wpE (defs₀ (F := F)) Variants.none c none) E (.op (.load m r hl) k) K := by
  iintro ⟨H, Hk⟩
  ihave H' := (show (owns (c : Thread nD τ) m fullShare X : sProp 𝕄)
      ⊢ iprop(∃ f, ⌜m.view.read (Elt F) f = X⌝ ∗ (m.view.loc (c : Thread nD τ) ↦[m.view.set]{fullShare} f)) from .rfl) $$ H
  icases H' with ⟨%f, %hf, H⟩
  subst hf
  have hS : m.view.setOn r.set ⊆ m.view.set := Finset.map_subset_map.mpr (Finset.subset_univ _)
  iapply (wp_load (defs := defs₀ (F := F)) Variants.none (c : Thread nD τ) none E (m := m) (r := r) (hl := hl) (k := k) (Q := K) (f := f) hS) $$ H
  iintro H
  iapply Hk
  iapply (owns_intro (c : Thread nD τ) m fullShare f) $$ H

/-- A store into a memref owned at `X` continues with the rectangle's part of `X` replaced. -/
theorem owns_store (c : Dev nD) (E : Set ℕ) {α : Type} {s : Shape} {e : EltTy} (m : Memref sig .tc .vmem s e) (X : s.Idx → Elt F e)
    (r : Rect s) (w : r.shape.Idx → Elt F e) (hx : (m.access r).Stores Finset.univ)
    (hm : (Finset.univ : Finset r.shape.Idx) = Finset.univ ∨ ∀ a, r.stride a = 1)
    (k : PUnit → Prog (TpuEff nD τ sig (Elt F) Λ₀ .tc) α) (K : α → sProp 𝕄) :
    iprop(owns (c : Thread nD τ) m fullShare X
        ∗ (owns (c : Thread nD τ) m fullShare (r.overlay X w) -∗ wp frame (wpE (defs₀ (F := F)) Variants.none c none) E (k ⟨⟩) K))
      ⊢ wp frame (wpE (defs₀ (F := F)) Variants.none c none) E (.op (.store m r w Finset.univ hx hm) k) K := by
  iintro ⟨H, Hk⟩
  ihave H' := (show (owns (c : Thread nD τ) m fullShare X : sProp 𝕄)
      ⊢ iprop(∃ f, ⌜m.view.read (Elt F) f = X⌝ ∗ (m.view.loc (c : Thread nD τ) ↦[m.view.set]{fullShare} f)) from .rfl) $$ H
  icases H' with ⟨%f, %hf, H⟩
  subst hf
  have hS : (m.access r).setOn Finset.univ ⊆ m.view.set := View.set_slice_subset _ _
  have hread : m.view.read (Elt F) ((m.access r).write (Elt F) f w Finset.univ) = r.overlay (m.view.read (Elt F) f) w := by
    funext y
    by_cases hy : y ∈ r.set
    · obtain ⟨j, rfl⟩ := r.exists_idx_of_mem hy
      exact (View.read_slice_write_emb r f w (Finset.mem_univ j)).trans (r.overlay_emb _ _ j).symm
    · rw [r.overlay_of_not_mem _ _ hy]
      exact View.read_slice_write_of_not_mem r f w Finset.univ (by rwa [Rect.map_emb_univ])
  iapply (wp_store (defs := defs₀ (F := F)) Variants.none (c : Thread nD τ) none E (m := m) (r := r) (w := w) (hx := hx) (hm := hm)
    (k := k) (Q := K) (f := f) hS) $$ H
  iintro H
  iapply Hk
  rw [← hread]
  iapply (owns_intro (c : Thread nD τ) m fullShare _) $$ H

/-- A program on the buffers with the function on contents it computes. -/
structure Act (F : FTy → Type) [FloatOps F] [Named F] (R : Refs) (α : Type) where
  /-- The program. -/
  prog : Prog (TpuEff nD τ sig (Elt F) Λ₀ .tc) α
  /-- Its answer and the contents it leaves, from the contents it starts at. -/
  sem : St F → α × St F
  /-- The program meets the function. -/
  sound : ∀ (c : Dev nD) (E : Set ℕ) (σ : St F) (K : α → sProp (MT nD τ sig Unit (Elt F) ℕ (UR sig nD τ) ℕ)),
    iprop(holds c R σ ∗ (holds c R (sem σ).2 -∗ K (sem σ).1))
      ⊢ wp frame (wpE (defs₀ (F := F)) Variants.none c none) E prog K

namespace Act

variable {R : Refs} {α β : Type}

/-- Answer `a`, touching nothing. -/
def ret (a : α) : Act F R α where
  prog := .ret a
  sem σ := (a, σ)
  sound c E σ K := by
    have h : iprop(holds c R σ ∗ (holds c R σ -∗ K a)) ⊢ K a := by
      iintro ⟨H, Hk⟩
      iapply Hk $$ H
    rw [wp_ret]
    exact h.trans BI.fupd_intro

/-- One act, then another that may depend on its answer. -/
def bind (p : Act F R α) (q : α → Act F R β) : Act F R β where
  prog := p.prog >>= fun a => (q a).prog
  sem σ := (q (p.sem σ).1).sem (p.sem σ).2
  sound c E σ K := by
    have h : iprop(holds c R σ ∗ (holds c R ((q (p.sem σ).1).sem (p.sem σ).2).2 -∗ K ((q (p.sem σ).1).sem (p.sem σ).2).1))
        ⊢ iprop(holds c R σ ∗ (holds c R (p.sem σ).2
            -∗ wp frame (wpE (defs₀ (F := F)) Variants.none c none) E (q (p.sem σ).1).prog K)) := by
      iintro ⟨H, Hk⟩
      isplitl [H]; · iexact H
      iintro H
      iapply ((q (p.sem σ).1).sound c E (p.sem σ).2 K)
      isplitl [H]; · iexact H
      iexact Hk
    rw [wp_bind]
    exact h.trans (p.sound c E σ fun a => wp frame (wpE (defs₀ (F := F)) Variants.none c none) E (q a).prog K)

/-- The rectangle `r` of buffer `b`. -/
def load (b : B) (r : LoadRect b.sh) (hl : (R b).view.LoadsAt r) : Act F R (r.shape.Idx → Elt F b.el) where
  prog := .op (.load (R b) r hl) .ret
  sem σ := (fun j => σ b (r.idx j), σ)
  sound c E σ K := by
    have h : iprop(holds c R σ ∗ (holds c R σ -∗ K fun j => σ b (r.idx j)))
        ⊢ iprop(owns (c : Thread nD τ) (R b) fullShare (σ b) ∗ (owns (c : Thread nD τ) (R b) fullShare (σ b)
            -∗ wp frame (wpE (defs₀ (F := F)) Variants.none c none) E (.ret fun j => σ b (r.idx j)) K)) := by
      rw [wp_ret]
      rw [holds_split c R σ b]
      iintro ⟨⟨H, Hr⟩, Hk⟩
      isplitl [H]; · iexact H
      iintro H
      iapply BI.fupd_intro
      iapply Hk
      isplitl [H]; · iexact H
      iexact Hr
    exact h.trans (owns_load c E (R b) (σ b) r hl .ret K)

/-- Contents with one buffer's replaced. -/
def put (σ : St F) (b : B) (X : b.sh.Idx → Elt F b.el) : St F := Function.update σ b X

/-- The rectangle `r` of buffer `b` replaced by `w`. -/
def store (b : B) (r : Rect b.sh) (w : r.shape.Idx → Elt F b.el) (hx : ((R b).access r).Stores Finset.univ)
    (hm : (Finset.univ : Finset r.shape.Idx) = Finset.univ ∨ ∀ a, r.stride a = 1) : Act F R PUnit where
  prog := .op (.store (R b) r w Finset.univ hx hm) .ret
  sem σ := (⟨⟩, put σ b (r.overlay (σ b) w))
  sound c E σ K := by
    have h : iprop(holds c R σ ∗ (holds c R (put σ b (r.overlay (σ b) w)) -∗ K ⟨⟩))
        ⊢ iprop(owns (c : Thread nD τ) (R b) fullShare (σ b) ∗ (owns (c : Thread nD τ) (R b) fullShare (r.overlay (σ b) w)
            -∗ wp frame (wpE (defs₀ (F := F)) Variants.none c none) E (.ret ⟨⟩) K)) := by
      rw [wp_ret]
      have e : holds c R (put σ b (r.overlay (σ b) w)) = iprop(owns (c : Thread nD τ) (R b) fullShare (r.overlay (σ b) w)
          ∗ bigSep (Finset.univ.erase b) fun b' => owns (c : Thread nD τ) (R b') fullShare (σ b')) := by
        rw [holds_split c R _ b]
        congr 1
        · simp only [put, Function.update_self]
        · exact bigSep_congr fun b' hb' => by simp only [put, Function.update_of_ne (Finset.ne_of_mem_erase hb')]
      rw [e]
      rw [holds_split c R σ b]
      iintro ⟨⟨H, Hr⟩, Hk⟩
      isplitl [H]; · iexact H
      iintro H
      iapply BI.fupd_intro
      iapply Hk
      isplitl [H]; · iexact H
      iexact Hr
    exact h.trans (owns_store c E (R b) (σ b) r w hx hm .ret K)

/-- `f` at `0, …, n - 1` in turn, each answer passed to the next. -/
def loop : (n : Nat) → (Fin n → α → Act F R α) → α → Act F R α
  | 0, _, a => ret a
  | n + 1, f, a => bind (f 0 a) fun a => loop n (fun j => f j.succ) a

end Act

end Cert.KernelIdeal.Hand
-- ==== Proof.Model.lean ====
/-
  The kernel's body once more, as an `Act` that is parametric in the block of queries, the heads and the key blocks. The
  printed body is this with every loop written out (`Branch` proves it), so a fact of the parametric form serves all
  five blocks and all heads.
-/
module

public import proofs.«01_k».proof.Proof.Act

@[expose] public section

noncomputable section

namespace Cert.KernelIdeal.Hand

open Idealize.ShloMosaic Idealize.ShloMosaic.TcCoe
open Cert.KernelIdeal.Gen

variable {F : FTy → Type} [FloatOps F] [Named F]

/-! ## The pure pieces -/

/-- The scale of a block from its largest absolute value: that over 127, or 1 for a block of zeros. -/
def scaleOf (a : FVec F S1x1 .f32) : FVec F S1x1 .f32 :=
  select (cmpf .ogt a (broadcast S1x1 (Scalar.ofBits .f32 0x00000000#32)))
    (divf a (broadcast S1x1 (Scalar.ofBits .f32 0x42FE0000#32))) (broadcast S1x1 (Scalar.ofBits .f32 0x3F800000#32))

/-- The largest entry of a row. -/
def laneMax (v : FVec F S1x256 .f32) : FVec F S1x1 .f32 :=
  shapeCast S1x1 (multiReduction .maximumf [1] S1 v 0xFF800000#32 reduces_S1x256_S1 (.inl rfl) rfl) shapeCasts_S1_S1x1

/-- The columns' largest entries over a block of keys. -/
def kHi (kb : FVec F S64x256 .bf16) : FVec F S1x256 .f32 :=
  shapeCast S1x256 (multiReduction .maximumf [0] S256
    (extf .f32 (multiReduction .maximumf [0] S16x256 (shapeCast S4x16x256 kb shapeCasts_S64x256_S4x16x256) 0xFF80#16
      reduces_S4x16x256_S16x256 (.inr rfl) rfl) bitsLt_bf16_f32) 0xFF800000#32 reduces_S16x256_S256 (.inl rfl) rfl) shapeCasts_S256_S1x256

/-- The columns' smallest entries over a block of keys. -/
def kLo (kb : FVec F S64x256 .bf16) : FVec F S1x256 .f32 :=
  shapeCast S1x256 (multiReduction .minimumf [0] S256
    (extf .f32 (multiReduction .minimumf [0] S16x256 (shapeCast S4x16x256 kb shapeCasts_S64x256_S4x16x256) 0x7F80#16
      reduces_S4x16x256_S16x256 (.inr rfl) rfl) bitsLt_bf16_f32) 0x7F800000#32 reduces_S16x256_S256 (.inl rfl) rfl) shapeCasts_S256_S1x256

/-- A key block's scale. -/
def kScale (kb : FVec F S64x256 .bf16) (mean : FVec F S1x256 .f32) : FVec F S1x1 .f32 :=
  scaleOf (laneMax (maximumf (absf (subf (kHi kb) mean)) (absf (subf (kLo kb) mean))))

/-- A key block's codes, as floats. -/
def kRound (kb : FVec F S64x256 .bf16) (mean : FVec F S1x256 .f32) : FVec F S64x256 .f32 :=
  roundeven (minimumf (broadcast S64x256 (Scalar.ofBits .f32 0x42FE0000#32)) (maximumf (broadcast S64x256 (Scalar.ofBits .f32 0xC2FE0000#32))
    (mulf (subf (extf .f32 kb bitsLt_bf16_f32) (broadcastTo S64x256 mean broadcasts_S1x256_S64x256))
      (broadcastTo S64x256 (divf (broadcast S1x1 (Scalar.ofBits .f32 0x3F800000#32)) (kScale kb mean)) broadcasts_S1x1_S64x256))))

/-- The mean of 640 keys by columns. -/
def meanOf (kb : FVec F S640x256 .bf16) : FVec F S1x256 .f32 :=
  mulf (shapeCast S1x256 (multiReduction .add [0] S256 (multiReduction .add [0] S32x256
      (shapeCast S20x32x256 (extf .f32 kb bitsLt_bf16_f32) shapeCasts_S640x256_S20x32x256) 0x00000000#32 reduces_S20x32x256_S32x256 (.inl rfl) rfl)
      0x00000000#32 reduces_S32x256_S256 (.inl rfl) rfl) shapeCasts_S256_S1x256)
    (broadcast S1x256 (Named.named κ "inv_seq" 0x3ACCCCCD#32))

/-- A query block's scale. -/
def qScale (x : FVec F S128x256 .bf16) : FVec F S1x1 .f32 :=
  scaleOf (laneMax (shapeCast S1x256 (multiReduction .maximumf [0] S256
    (extf .f32 (multiReduction .maximumf [0] S16x256 (shapeCast S8x16x256 (absf x) shapeCasts_S128x256_S8x16x256) 0xFF80#16
      reduces_S8x16x256_S16x256 (.inr rfl) rfl) bitsLt_bf16_f32) 0xFF800000#32 reduces_S16x256_S256 (.inl rfl) rfl) shapeCasts_S256_S1x256))

/-- A query block's codes, as floats. -/
def qRound (x : FVec F S128x256 .bf16) : FVec F S128x256 .f32 :=
  roundeven (minimumf (broadcast S128x256 (Scalar.ofBits .f32 0x42FE0000#32)) (maximumf (broadcast S128x256 (Scalar.ofBits .f32 0xC2FE0000#32))
    (mulf (extf .f32 x bitsLt_bf16_f32)
      (broadcastTo S128x256 (divf (broadcast S1x1 (Scalar.ofBits .f32 0x3F800000#32)) (qScale x)) broadcasts_S1x1_S128x256))))

/-! ## Evidence for the rectangles -/

theorem inb2 {d : Fin 2 → Nat} {a b p q : Nat} (h0 : a + p ≤ d 0) (h1 : b + q ≤ d 1) :
    ∀ j, (![a, b] : Fin 2 → Nat) j + (![p, q] : Fin 2 → Nat) j ≤ (⟨2, d⟩ : Shape).size j := Fin.forall_fin_two.mpr ⟨h0, h1⟩

theorem inb3 {d : Fin 3 → Nat} {a b c p q r : Nat} (h0 : a + p ≤ d 0) (h1 : b + q ≤ d 1) (h2 : c + r ≤ d 2) :
    ∀ j, (![a, b, c] : Fin 3 → Nat) j + (![p, q, r] : Fin 3 → Nat) j ≤ (⟨3, d⟩ : Shape).size j := by
  intro j; fin_cases j
  · exact h0
  · exact h1
  · exact h2

theorem packed2 {d : Fin 2 → Nat} {a b p q n : Nat} (h : ∀ j, (![a, b] : Fin 2 → Nat) j + (![p, q] : Fin 2 → Nat) j ≤ (⟨2, d⟩ : Shape).size j)
    (ha : n ∣ a) (hp : n ∣ p) : (Rect.unit (s := ⟨2, d⟩) ![a, b] ![p, q] h).PackedRows n :=
  .inr ⟨Nat.le_refl 2, rfl, .inl ⟨ha, hp⟩⟩

theorem inbStride {d : Fin 2 → Nat} {a p q s : Nat} (h0 : a + s * (p - 1) < d 0) (h1 : q ≤ d 1) :
    ∀ j, (![p, q] : Fin 2 → Nat) j = 0 ∨
      (![a, 0] : Fin 2 → Nat) j + (![s, 1] : Fin 2 → Nat) j * ((![p, q] : Fin 2 → Nat) j - 1) < (⟨2, d⟩ : Shape).size j := by
  intro j; fin_cases j
  · exact .inr h0
  · rcases Nat.eq_zero_or_pos q with h | h
    · exact .inl h
    · refine .inr ?_
      show 0 + 1 * (q - 1) < d 1
      omega

theorem slices2 {d : Fin 2 → Nat} {a b p q : Nat} (h0 : a + p ≤ d 0) (h1 : b + q ≤ d 1) :
    (⟨2, d⟩ : Shape).Slices ![a, b] ⟨2, ![p, q]⟩ := ⟨rfl, Fin.forall_fin_two.mpr ⟨h0, h1⟩⟩

/-! ## The acts -/

variable {R : Refs} (hR : ∀ b, (R b).IsWhole)

namespace Act

/-- What a reference's assignment prints as: its old value is read and dropped, then the new one stored. -/
def assign (b : B) (r : Rect b.sh) (w : r.shape.Idx → Elt F b.el) (hl : (R b).view.LoadsAt r.toLoadRect)
    (hx : ((R b).access r).Stores Finset.univ) (hm : (Finset.univ : Finset r.shape.Idx) = Finset.univ ∨ ∀ a, r.stride a = 1) :
    Act F R PUnit :=
  Act.bind (Act.load b r.toLoadRect hl) fun _ => Act.store b r w hx hm

end Act

/-- Head `h`'s mean of the keys. -/
def meanStep (h : Fin 8) : Act F R PUnit :=
  Act.bind (Act.load .k (Rect.unit (s := S1x640x2048) ![0, 0, h.val * 256] S1x640x256.size
    (inb3 (by decide) (by decide) (by have := h.isLt; show h.val * 256 + 256 ≤ 2048; omega))).toLoadRect (View.loadsAt_vmem h_S1x640x256)) fun kb =>
  Act.assign .mean (Rect.unit (s := S1x2048) ![0, h.val * 256] S1x256.size
      (inb2 (by decide) (by have := h.isLt; show h.val * 256 + 256 ≤ 2048; omega)))
    (shapeCast S1x256 (meanOf (shapeCast S640x256 kb shapeCasts_S1x640x256_S640x256)) shapeCasts_S1x256_S1x256)
    (View.loadsAt_vmem h_S1x256) (View.stores_vmem_bits_univ h_S1x256 rfl) (.inl rfl)

/-- All heads' means. -/
def means : Act F R PUnit := Act.loop 8 (fun h _ => meanStep h) ⟨⟩

/-- Key block `n` of head `h`: its codes and scale stored, its scale put in the tile of scales. -/
def kUnit (n : Fin 10) (h : Fin 8) (tile : FVec F S8x10 .f32) : Act F R (FVec F S8x10 .f32 × FVec F S64x256 .f32) :=
  Act.bind (Act.load .k (Rect.unit (s := S1x640x2048) ![0, n.val * 64, h.val * 256] S1x64x256.size
    (inb3 (by decide) (by have := n.isLt; show n.val * 64 + 64 ≤ 640; omega) (by have := h.isLt; show h.val * 256 + 256 ≤ 2048; omega))).toLoadRect
    (View.loadsAt_vmem h_S1x64x256)) fun k3 =>
  Act.bind (Act.load .mean (Rect.unit (s := S1x2048) ![0, h.val * 256] S1x256.size
      (inb2 (by decide) (by have := h.isLt; show h.val * 256 + 256 ≤ 2048; omega))).toLoadRect (View.loadsAt_vmem h_S1x256)) fun mean =>
  Act.bind (Act.assign .kcode (Rect.unit (s := S640x2048) ![n.val * 64, h.val * 256] S64x256.size
      (inb2 (by have := n.isLt; show n.val * 64 + 64 ≤ 640; omega) (by have := h.isLt; show h.val * 256 + 256 ≤ 2048; omega)))
    (shapeCast S64x256 (truncf .bf16 (kRound (shapeCast S64x256 k3 shapeCasts_S1x64x256_S64x256) mean) bitsLt_bf16_f32) shapeCasts_S64x256_S64x256)
    (View.loadsAt_vmem h_S64x256)
    (View.stores_vmem h_S64x256 ((hR .kcode).storeExact_slice rfl _ (packed2 _ ⟨n.val * 32, by show _ = 2 * _; omega⟩ ⟨32, rfl⟩)) (fun _ => rfl))
    (.inl rfl)) fun _ =>
  Act.bind (Act.assign .kscale (Rect.unit (s := S80x128) ![h.val * 10 + n.val, 0] S1x128.size
      (inb2 (by have := n.isLt; have := h.isLt; show h.val * 10 + n.val + 1 ≤ 80; omega) (by decide)))
    (shapeCast S1x128 (broadcastTo S1x128 (shapeCast S1x1 (kScale (shapeCast S64x256 k3 shapeCasts_S1x64x256_S64x256) mean) shapeCasts_S1x1_S1x1)
      broadcasts_S1x1_S1x128) shapeCasts_S1x128_S1x128)
    (View.loadsAt_vmem h_S1x128) (View.stores_vmem_bits_univ h_S1x128 rfl) (.inl rfl)) fun _ =>
  Act.ret (select (andi (cmpi .eq (iota .tc S8x10 32 [0] iota_S8x10_d0_w32) (broadcast S8x10 (BitVec.ofNat 32 h.val)))
        (cmpi .eq (iota .tc S8x10 32 [1] iota_S8x10_d1_w32) (broadcast S8x10 (BitVec.ofNat 32 n.val))))
      (broadcastTo S8x10 (shapeCast S1x1 (kScale (shapeCast S64x256 k3 shapeCasts_S1x64x256_S64x256) mean) shapeCasts_S1x1_S1x1) broadcasts_S1x1_S8x10)
      tile,
    kRound (shapeCast S64x256 k3 shapeCasts_S1x64x256_S64x256) mean)

/-- Lane tile `j` of four heads' key codes packed into words. -/
def kPack (a b c d : FVec F S64x256 .f32) (j : Fin 2) : IVec S64x128 32 :=
  packElementwiseInt 8 ![fptosi 32 (extractStridedSlice S64x128 ![0, j.val * 128] a (slices2 (by decide) (by have := j.isLt; show j.val * 128 + 128 ≤ 256; omega))),
    fptosi 32 (extractStridedSlice S64x128 ![0, j.val * 128] b (slices2 (by decide) (by have := j.isLt; show j.val * 128 + 128 ≤ 256; omega))),
    fptosi 32 (extractStridedSlice S64x128 ![0, j.val * 128] c (slices2 (by decide) (by have := j.isLt; show j.val * 128 + 128 ≤ 256; omega))),
    fptosi 32 (extractStridedSlice S64x128 ![0, j.val * 128] d (slices2 (by decide) (by have := j.isLt; show j.val * 128 + 128 ≤ 256; omega)))]

/-- The words of four heads' key codes stored, block `d` of the two. -/
def kWords (d : Fin 2) (word : Fin 2) (a b c e : FVec F S64x256 .f32) : Act F R PUnit :=
  Act.loop 2 (fun j _ =>
    Act.assign .kc32 ⟨(⟨![d.val * 256 + j.val * 2 + word.val, 0], S64x128.size, ![4, 1],
        inbStride (by have := d.isLt; have := j.isLt; have := word.isLt; show d.val * 256 + j.val * 2 + word.val + 4 * (64 - 1) < 512; omega) (by decide)⟩ :
          LoadRect S512x128), spos_4_1⟩
      (shapeCast S64x128 (kPack a b c e j) shapeCasts_S64x128_S64x128) (View.loadsAt_vmem h_S64x128) (View.stores_vmem_bits_univ h_S64x128 rfl) (.inl rfl)) ⟨⟩

/-- Four heads of one key block. -/
def kGroup (n : Fin 10) (d word : Fin 2) (tile : FVec F S8x10 .f32) : Act F R (FVec F S8x10 .f32) :=
  Act.bind (kUnit hR n ⟨4 * word.val, by omega⟩ tile) fun a =>
  Act.bind (kUnit hR n ⟨4 * word.val + 1, by omega⟩ a.1) fun b =>
  Act.bind (kUnit hR n ⟨4 * word.val + 2, by omega⟩ b.1) fun c =>
  Act.bind (kUnit hR n ⟨4 * word.val + 3, by omega⟩ c.1) fun e =>
  Act.bind (kWords d word a.2 b.2 c.2 e.2) fun _ => Act.ret e.1

/-- The two key blocks of query block `i`, all heads; then the tile of scales stored. -/
def kPhase (i : Nat) (hi : i < 5) : Act F R PUnit :=
  Act.bind (Act.load .ks (Rect.unit (s := S1x8x10) ![0, 0, 0] S1x8x10.size inb_S1x8x10_S1x8x10_0_0_0).toLoadRect (View.loadsAt_vmem h_S1x8x10)) fun t =>
  Act.bind (Act.loop 2 (fun d => Act.loop 2 fun w => kGroup hR ⟨2 * i + d.val, by omega⟩ d w) (shapeCast S8x10 t shapeCasts_S1x8x10_S8x10)) fun t =>
  Act.assign .ks (Rect.unit (s := S1x8x10) ![0, 0, 0] S1x8x10.size inb_S1x8x10_S1x8x10_0_0_0) (shapeCast S1x8x10 t shapeCasts_S8x10_S1x8x10)
    (View.loadsAt_vmem h_S1x8x10) (View.stores_vmem_bits_univ h_S1x8x10 rfl) (.inl rfl)

/-- Head `h`'s values of block `i`, transposed. -/
def vStep (i : Nat) (hi : i < 5) (h : Fin 8) : Act F R PUnit :=
  Act.bind (Act.load .v (Rect.unit (s := S1x128x2048) ![0, 0, h.val * 256] S1x128x256.size
    (inb3 (by decide) (by decide) (by have := h.isLt; show h.val * 256 + 256 ≤ 2048; omega))).toLoadRect (View.loadsAt_vmem h_S1x128x256)) fun v =>
  Act.assign .vt (Rect.unit (s := S2048x640) ![h.val * 256, i * 128] S256x128.size
      (inb2 (by have := h.isLt; show h.val * 256 + 256 ≤ 2048; omega) (by show i * 128 + 128 ≤ 640; omega)))
    (shapeCast S256x128 (transpose S256x128 [1, 0] (shapeCast S128x256 v shapeCasts_S1x128x256_S128x256) transposes_S128x256_p1_0_S256x128) shapeCasts_S256x128_S256x128)
    (View.loadsAt_vmem h_S256x128)
    (View.stores_vmem h_S256x128 ((hR .vt).storeExact_slice rfl _ (packed2 _ ⟨h.val * 128, by show _ = 2 * _; omega⟩ ⟨128, rfl⟩)) (fun _ => rfl))
    (.inl rfl)

/-- Query head `h`: its block of queries read and its scale put in the row of scales. -/
def qUnit (h : Fin 16) (row : FVec F S1x16 .f32) : Act F R (FVec F S1x16 .f32 × FVec F S128x256 .bf16) :=
  Act.bind (Act.load .x (Rect.unit (s := S1x128x4096) ![0, 0, h.val * 256] S1x128x256.size
    (inb3 (by decide) (by decide) (by have := h.isLt; show h.val * 256 + 256 ≤ 4096; omega))).toLoadRect (View.loadsAt_vmem h_S1x128x256)) fun x =>
  Act.ret (select (cmpi .eq (iota .tc S1x16 32 [1] iota_S1x16_d1_w32) (broadcast S1x16 (BitVec.ofNat 32 h.val)))
      (broadcastTo S1x16 (shapeCast S1x1 (qScale (shapeCast S128x256 x shapeCasts_S1x128x256_S128x256)) shapeCasts_S1x1_S1x1) broadcasts_S1x1_S1x16) row,
    shapeCast S128x256 x shapeCasts_S1x128x256_S128x256)

/-- Lane tile `j` of four heads' query codes packed into words. -/
def qPack (a b c d : FVec F S128x256 .f32) (j : Fin 2) : IVec S128x128 32 :=
  packElementwiseInt 8 ![fptosi 32 (extractStridedSlice S128x128 ![0, j.val * 128] a (slices2 (by decide) (by have := j.isLt; show j.val * 128 + 128 ≤ 256; omega))),
    fptosi 32 (extractStridedSlice S128x128 ![0, j.val * 128] b (slices2 (by decide) (by have := j.isLt; show j.val * 128 + 128 ≤ 256; omega))),
    fptosi 32 (extractStridedSlice S128x128 ![0, j.val * 128] c (slices2 (by decide) (by have := j.isLt; show j.val * 128 + 128 ≤ 256; omega))),
    fptosi 32 (extractStridedSlice S128x128 ![0, j.val * 128] d (slices2 (by decide) (by have := j.isLt; show j.val * 128 + 128 ≤ 256; omega)))]

/-- The words of four heads' query codes stored. -/
def qWords (word : Fin 4) (a b c e : FVec F S128x256 .f32) : Act F R PUnit :=
  Act.loop 2 (fun j _ =>
    Act.assign .qc32 ⟨(⟨![word.val / 2 * 4 + j.val * 2 + word.val % 2, 0], S128x128.size, ![8, 1],
        inbStride (by have := j.isLt; have := word.isLt; show word.val / 2 * 4 + j.val * 2 + word.val % 2 + 8 * (128 - 1) < 1024; omega) (by decide)⟩ :
          LoadRect S1024x128), spos_8_1⟩
      (shapeCast S128x128 (qPack a b c e j) shapeCasts_S128x128_S128x128) (View.loadsAt_vmem h_S128x128) (View.stores_vmem_bits_univ h_S128x128 rfl) (.inl rfl)) ⟨⟩

/-- The score blocks gathered so far. -/
abbrev Parts (F : FTy → Type) (n : Nat) : Type :=
  {l : List ((s : Shape) × (s.Idx → F .f32)) // l.map (·.1) = List.replicate n S64x128}

theorem push_ok {n : Nat} (l : Parts F n) (s : FVec F S64x128 .f32) :
    ((⟨S64x128, s⟩ :: l.1 : List ((s : Shape) × (s.Idx → F .f32)))).map (·.1) = List.replicate (n + 1) S64x128 := by
  rw [List.map_cons, l.2, List.replicate_succ]

/-- One more block of scores, put in front. -/
def push {n : Nat} (l : Parts F n) (s : FVec F S64x128 .f32) : Parts F (n + 1) := ⟨⟨S64x128, s⟩ :: l.1, push_ok l s⟩

theorem rev_ok {n m : Nat} (h : n = m) (l : Parts F n) : l.1.reverse.map (·.1) = List.replicate m S64x128 := by
  subst h
  rw [List.map_reverse, l.2, List.reverse_replicate]

/-- The blocks in order. -/
def rev {n m : Nat} (h : n = m) (l : Parts F n) : Parts F m := ⟨l.1.reverse, rev_ok h l⟩

/-- Scores of key block `n` against head `g` of the pair: scaled and, in the block's own columns, masked. -/
def part (i : Nat) (hi : i < 5) (kv : Fin 8) (g : Fin 2) (st : FVec F ⟨2, ![(i + 1) * 128, 256]⟩ .f32) (factor : FVec F S1x1 .f32)
    (n : Nat) (hn : n < 2 * (i + 1)) : Act F R (FVec F S64x128 .f32) :=
  Act.bind (Act.load .kscale (Rect.unit (s := S80x128) ![kv.val * 10 + n, 0] S1x128.size
      (inb2 (by have := kv.isLt; show kv.val * 10 + n + 1 ≤ 80; omega) (by decide))).toLoadRect (View.loadsAt_vmem h_S1x128)) fun sc =>
  if hd : 2 * i ≤ n then
    Act.bind (Act.load .mask (Rect.unit (s := S128x128) ![(n - 2 * i) * 64, 0] S64x128.size
      (inb2 (by show (n - 2 * i) * 64 + 64 ≤ 128; omega) (by decide))).toLoadRect (View.loadsAt_vmem h_S64x128)) fun mk =>
    Act.ret (addf (mulf (extractStridedSlice S64x128 ![n * 64, g.val * 128] st (slices2 (by show n * 64 + 64 ≤ (i + 1) * 128; omega) (by have := g.isLt; show g.val * 128 + 128 ≤ 256; omega)))
      (broadcastTo S64x128 (mulf sc (broadcastTo S1x128 factor broadcasts_S1x1_S1x128)) broadcasts_S1x128_S64x128)) mk)
  else
    Act.ret (mulf (extractStridedSlice S64x128 ![n * 64, g.val * 128] st (slices2 (by show n * 64 + 64 ≤ (i + 1) * 128; omega) (by have := g.isLt; show g.val * 128 + 128 ≤ 256; omega)))
      (broadcastTo S64x128 (mulf sc (broadcastTo S1x128 factor broadcasts_S1x1_S1x128)) broadcasts_S1x128_S64x128))

/-- The scores of `n` key blocks from block `j` on, after those before, gathered in front. -/
def parts (i : Nat) (hi : i < 5) (kv : Fin 8) (g : Fin 2) (st : FVec F ⟨2, ![(i + 1) * 128, 256]⟩ .f32) (factor : FVec F S1x1 .f32) :
    (n j : Nat) → j + n = 2 * (i + 1) → Parts F j → Act F R (Parts F (2 * (i + 1)))
  | 0, _, h, l => Act.ret (rev h l)
  | n + 1, j, h, l => Act.bind (part i hi kv g st factor j (by omega)) fun s => parts i hi kv g st factor n (j + 1) (by omega) (push l s)

theorem concatParts {i : Nat} (l : Parts F (2 * (i + 1))) :
    Shape.Concatenates (l.1.map (·.1)) ⟨2, ![(i + 1) * 128, 128]⟩ 0 := by
  rw [l.2]
  refine ⟨by rw [List.length_replicate]; omega, ?_, ?_⟩
  · intro s hs
    obtain rfl := List.eq_of_mem_replicate hs
    refine ⟨rfl, fun b hb => ?_⟩
    fin_cases b
    · exact absurd rfl hb
    · rfl
  · rw [List.map_replicate, List.sum_replicate]
    show 2 * (i + 1) * 64 = (i + 1) * 128
    omega

/-- The columns' largest of `L` rows. -/
def rowsMax (i : Nat) (s : FVec F ⟨2, ![(i + 1) * 128, 128]⟩ .f32) (h : Shape.ShapeCasts ⟨2, ![(i + 1) * 128, 128]⟩ ⟨3, ![(i + 1) * 4, 32, 128]⟩)
    (h' : Shape.Reduces ⟨3, ![(i + 1) * 4, 32, 128]⟩ [0] S32x128) : FVec F S1x128 .f32 :=
  shapeCast S1x128 (multiReduction .maximumf [0] S128 (multiReduction .maximumf [0] S32x128 (shapeCast ⟨3, ![(i + 1) * 4, 32, 128]⟩ s h)
    0xFF800000#32 h' (.inl rfl) rfl) 0xFF800000#32 reduces_S32x128_S128 (.inl rfl) rfl) shapeCasts_S128_S1x128

/-- The columns' sums of `L` rows. -/
def rowsSum (i : Nat) (s : FVec F ⟨2, ![(i + 1) * 128, 128]⟩ .f32) (h : Shape.ShapeCasts ⟨2, ![(i + 1) * 128, 128]⟩ ⟨3, ![(i + 1) * 4, 32, 128]⟩)
    (h' : Shape.Reduces ⟨3, ![(i + 1) * 4, 32, 128]⟩ [0] S32x128) : FVec F S1x128 .f32 :=
  shapeCast S1x128 (multiReduction .add [0] S128 (multiReduction .add [0] S32x128 (shapeCast ⟨3, ![(i + 1) * 4, 32, 128]⟩ s h)
    0x00000000#32 h' (.inl rfl) rfl) 0x00000000#32 reduces_S32x128_S128 (.inl rfl) rfl) shapeCasts_S128_S1x128

theorem numelL (i n : Nat) (hn : 0 < n) : 0 < (⟨2, ![(i + 1) * 128, n]⟩ : Shape).numel :=
  Shape.numel_pos fun a => by fin_cases a; exacts [(by omega : 0 < (i + 1) * 128), hn]

theorem numelR (i n : Nat) (hn : 0 < n) : 0 < (⟨2, ![n, (i + 1) * 128]⟩ : Shape).numel :=
  Shape.numel_pos fun a => by fin_cases a; exacts [hn, (by omega : 0 < (i + 1) * 128)]

theorem castsL (i : Nat) : Shape.ShapeCasts ⟨2, ![(i + 1) * 128, 128]⟩ ⟨3, ![(i + 1) * 4, 32, 128]⟩ := by
  have h2 : (⟨2, ![(i + 1) * 128, 128]⟩ : Shape).numel = (i + 1) * 128 * 128 := Fin.prod_univ_two _
  have h3 : (⟨3, ![(i + 1) * 4, 32, 128]⟩ : Shape).numel = (i + 1) * 4 * 32 * 128 := Fin.prod_univ_three _
  exact h3.trans ((show (i + 1) * 4 * 32 * 128 = (i + 1) * 128 * 128 by omega).trans h2.symm)

theorem reducesL (i : Nat) : Shape.Reduces ⟨3, ![(i + 1) * 4, 32, 128]⟩ [0] S32x128 :=
  ⟨rfl, by decide, fun b => by fin_cases b <;> rfl⟩

theorem broadcastsL (i : Nat) : Shape.Broadcasts S1x128 ⟨2, ![(i + 1) * 128, 128]⟩ :=
  ⟨Nat.le_refl 2, fun a => by
    fin_cases a
    · exact .inl rfl
    · exact .inr fun _ => rfl⟩

theorem concatProbs (i : Nat) :
    Shape.Concatenates [⟨2, ![(i + 1) * 128, 128]⟩, ⟨2, ![(i + 1) * 128, 128]⟩] ⟨2, ![(i + 1) * 128, 256]⟩ 1 := by
  refine ⟨Nat.le_refl 2, fun s hs => ?_, rfl⟩
  obtain rfl : s = ⟨2, ![(i + 1) * 128, 128]⟩ := by simpa using hs
  refine ⟨rfl, fun b hb => ?_⟩
  fin_cases b
  · rfl
  · exact absurd rfl hb

/-- The weights from the scores. -/
def probOf (i : Nat) (s : FVec F ⟨2, ![(i + 1) * 128, 128]⟩ .f32) : FVec F ⟨2, ![(i + 1) * 128, 128]⟩ .f32 :=
  exp2 (subf s (broadcastTo ⟨2, ![(i + 1) * 128, 128]⟩ (rowsMax i s (castsL i) (reducesL i)) (broadcastsL i)))

/-- One head of the pair: the weights and their sums. -/
def head (i : Nat) (hi : i < 5) (kv : Fin 8) (g : Fin 2) (st : FVec F ⟨2, ![(i + 1) * 128, 256]⟩ .f32) (scale : FVec F S1x1 .f32) :
    Act F R (FVec F ⟨2, ![(i + 1) * 128, 128]⟩ .f32) :=
  Act.bind (parts i hi kv g st (mulf scale (broadcast S1x1 (Named.named κ "log2e_scale" 0x3DB8AA3B#32))) (2 * (i + 1)) 0 (Nat.zero_add _) ⟨[], rfl⟩) fun l =>
  Act.ret (probOf i (concatenate ⟨2, ![(i + 1) * 128, 128]⟩ 0 l.1 (concatParts l)))

/-- The scores of one pair of heads. -/
def scores (i : Nat) (kc : FVec F ⟨2, ![(i + 1) * 128, 256]⟩ .bf16) (x0 x1 : FVec F S128x256 .bf16) : FVec F ⟨2, ![(i + 1) * 128, 256]⟩ .f32 :=
  matmul (DotDims.transposedRhs ((i + 1) * 128) 256 256) none kc
    (concatenate S256x256 0 [⟨S128x256, truncf .bf16 (qRound x0) bitsLt_bf16_f32⟩, ⟨S128x256, truncf .bf16 (qRound x1) bitsLt_bf16_f32⟩] concatenates_S128x256_S128x256_S256x256_d0)
    (constant ⟨2, ![(i + 1) * 128, 256]⟩ .f32 0x00000000#32)

/-- The pair's output from the weights. -/
def outOf (i : Nat) (vt : FVec F ⟨2, ![256, (i + 1) * 128]⟩ .bf16) (p0 p1 : FVec F ⟨2, ![(i + 1) * 128, 128]⟩ .f32) : FVec F S256x256 .bf16 :=
  transpose S256x256 [1, 0] (truncf .bf16 (divf
    (matmul (DotDims.plain 256 ((i + 1) * 128) 256) none vt
      (concatenate ⟨2, ![(i + 1) * 128, 256]⟩ 1 [⟨⟨2, ![(i + 1) * 128, 128]⟩, truncf .bf16 p0 bitsLt_bf16_f32⟩, ⟨⟨2, ![(i + 1) * 128, 128]⟩, truncf .bf16 p1 bitsLt_bf16_f32⟩] (concatProbs i))
      (constant S256x256 .f32 0x00000000#32))
    (broadcastTo S256x256 (concatenate S1x256 1 [⟨S1x128, rowsSum i p0 (castsL i) (reducesL i)⟩, ⟨S1x128, rowsSum i p1 (castsL i) (reducesL i)⟩] concatenates_S1x128_S1x128_S1x256_d1)
      broadcasts_S1x256_S256x256)) bitsLt_bf16_f32) transposes_S256x256_p1_0_S256x256

/-- Half `g` of the pair's output stored. -/
def outStep (kv : Fin 8) (o : FVec F S256x256 .bf16) (g : Fin 2) : Act F R PUnit :=
  Act.assign .out (Rect.unit (s := S1x128x4096) ![0, 0, (2 * kv.val + g.val) * 256] S1x128x256.size
      (inb3 (by decide) (by decide) (by show (2 * kv.val + g.val) * 256 + 256 ≤ 4096; omega)))
    (shapeCast S1x128x256 (extractStridedSlice S128x256 ![g.val * 128, 0] o (slices2 (by show g.val * 128 + 128 ≤ 256; omega) (by decide))) shapeCasts_S128x256_S1x128x256)
    (View.loadsAt_vmem h_S1x128x256)
    (View.stores_vmem h_S1x128x256 ((hR .out).storeExact_slice rfl _ (.inr ⟨by decide, rfl, .inl ⟨⟨0, rfl⟩, ⟨64, rfl⟩⟩⟩)) (fun _ => rfl))
    (.inl rfl)

/-- Attention of one pair of query heads over the prefix. -/
def attend (i : Nat) (hi : i < 5) (kv : Fin 8) (x0 x1 : FVec F S128x256 .bf16) : Act F R PUnit :=
  Act.bind (Act.load .kcode (Rect.unit (s := S640x2048) ![0, kv.val * 256] ![(i + 1) * 128, 256]
      (inb2 (by show 0 + (i + 1) * 128 ≤ 640; omega) (by show kv.val * 256 + 256 ≤ 2048; omega))).toLoadRect (View.loadsAt_vmem (numelL i 256 (by decide)))) fun kc =>
  Act.bind (head i hi kv 0 (scores i kc x0 x1) (qScale x0)) fun p0 =>
  Act.bind (head i hi kv 1 (scores i kc x0 x1) (qScale x1)) fun p1 =>
  Act.bind (Act.load .vt (Rect.unit (s := S2048x640) ![kv.val * 256, 0] ![256, (i + 1) * 128]
      (inb2 (by show kv.val * 256 + 256 ≤ 2048; omega) (by show 0 + (i + 1) * 128 ≤ 640; omega))).toLoadRect (View.loadsAt_vmem (numelR i 256 (by decide)))) fun vt =>
  Act.loop 2 (fun g _ => outStep hR kv (outOf i vt p0 p1) g) ⟨⟩

/-- Two pairs of query heads: four heads whose codes fill one word. -/
def qGroup (i : Nat) (hi : i < 5) (w : Fin 4) (row : FVec F S1x16 .f32) : Act F R (FVec F S1x16 .f32) :=
  Act.bind (qUnit ⟨4 * w.val, by omega⟩ row) fun a =>
  Act.bind (qUnit ⟨4 * w.val + 1, by omega⟩ a.1) fun b =>
  Act.bind (attend hR i hi ⟨2 * w.val, by omega⟩ a.2 b.2) fun _ =>
  Act.bind (qUnit ⟨4 * w.val + 2, by omega⟩ b.1) fun c =>
  Act.bind (qUnit ⟨4 * w.val + 3, by omega⟩ c.1) fun d =>
  Act.bind (qWords w (qRound a.2) (qRound b.2) (qRound c.2) (qRound d.2)) fun _ =>
  Act.bind (attend hR i hi ⟨2 * w.val + 1, by omega⟩ c.2 d.2) fun _ =>
  Act.ret d.1

/-- The queries: every head's codes, scale and attention. -/
def qPhase (i : Nat) (hi : i < 5) : Act F R (FVec F S1x16 .f32) :=
  Act.loop 4 (qGroup hR i hi) (broadcast S1x16 (Scalar.ofBits .f32 0x00000000#32))

/-- The words of codes handed out as bytes. -/
def codesOut : Act F R PUnit :=
  Act.bind (Act.load .qc32 (Rect.unit (s := S1024x128) ![0, 0] S1024x128.size inb_S1024x128_S1024x128_0_0).toLoadRect (View.loadsAt_vmem h_S1024x128)) fun q =>
  Act.bind (Act.assign .qc (Rect.unit (s := S4096x128) ![0, 0] S4096x128.size inb_S4096x128_S4096x128_0_0) (bitcast S4096x128 8 q bitcasts_S1024x128_w32_S4096x128_w8) (View.loadsAt_vmem h_S4096x128)
    (View.stores_vmem h_S4096x128 ((hR .qc).storeExact_slice rfl _ packedi8_S4096x128_S4096x128_0_0) (fun _ => rfl)) (.inl rfl)) fun _ =>
  Act.bind (Act.load .kc32 (Rect.unit (s := S512x128) ![0, 0] S512x128.size inb_S512x128_S512x128_0_0).toLoadRect (View.loadsAt_vmem h_S512x128)) fun q =>
  Act.assign .kc (Rect.unit (s := S2048x128) ![0, 0] S2048x128.size inb_S2048x128_S2048x128_0_0) (bitcast S2048x128 8 q bitcasts_S512x128_w32_S2048x128_w8) (View.loadsAt_vmem h_S2048x128)
    (View.stores_vmem h_S2048x128 ((hR .kc).storeExact_slice rfl _ packedi8_S2048x128_S2048x128_0_0) (fun _ => rfl)) (.inl rfl)

/-- Everything of block `i` but the means; `off` is where the row of query scales goes. -/
def step (i : Nat) (hi : i < 5) (off : Fin 3 → Nat) (ho : ∀ a, off a + S1x1x16.size a ≤ S5x3x16.size a) : Act F R PUnit :=
  Act.bind (kPhase hR i hi) fun _ =>
  Act.bind (Act.loop 8 (fun h _ => vStep hR i hi h) ⟨⟩) fun _ =>
  Act.bind (qPhase hR i hi) fun row =>
  Act.bind (Act.assign .qs (Rect.unit (s := S5x3x16) off S1x1x16.size ho) (shapeCast S1x1x16 row shapeCasts_S1x16_S1x1x16) (View.loadsAt_vmem h_S1x1x16)
    (View.stores_vmem_bits_univ h_S1x1x16 rfl) (.inl rfl)) fun _ =>
  codesOut hR

/-- The causal mask of a block against itself, stored: zero where the key is not after the query, `-∞` elsewhere. -/
def maskStep : Act F R PUnit :=
  Act.assign .mask (Rect.unit (s := S128x128) ![0, 0] S128x128.size inb_S128x128_S128x128_0_0)
    (shapeCast S128x128 (select (cmpi .sle (iota .tc S128x128 32 [0] iota_S128x128_d0_w32) (iota .tc S128x128 32 [1] iota_S128x128_d1_w32))
      (broadcast S128x128 (Scalar.ofBits .f32 0x00000000#32)) (broadcast S128x128 (Scalar.ofBits .f32 0xFF800000#32))) shapeCasts_S128x128_S128x128)
    (View.loadsAt_vmem h_S128x128) (View.stores_vmem_bits_univ h_S128x128 rfl) (.inl rfl)

/-- What a block does before its step: the first block of a sequence takes the means, and the first of all makes the mask. -/
def prelude (first : Bool) (i : Nat) : Act F R PUnit :=
  match i with
  | 0 => if first then Act.bind maskStep fun _ => means else means
  | _ + 1 => Act.ret ⟨⟩

/-- The body at block `i`. -/
def body (first : Bool) (i : Nat) (hi : i < 5) (off : Fin 3 → Nat) (ho : ∀ a, off a + S1x1x16.size a ≤ S5x3x16.size a) : Act F R PUnit :=
  Act.bind (prelude first i) fun _ => step hR i hi off ho

/-- The buffers of a call of the body. -/
def refs (arg2 : Memref sig .tc .vmem S1x128x4096 .bf16) (arg3 : Memref sig .tc .vmem S1x640x2048 .bf16) (arg4 : Memref sig .tc .vmem S1x128x2048 .bf16) (arg5 : Memref sig .tc .vmem S1x128x4096 .bf16) (arg6 : Memref sig .tc .vmem S4096x128 .i8) (arg7 : Memref sig .tc .vmem S5x3x16 .f32) (arg8 : Memref sig .tc .vmem S2048x128 .i8) (arg9 : Memref sig .tc .vmem S1x8x10 .f32) (arg10 : Memref sig .tc .vmem S1x2048 .f32) (arg11 : Memref sig .tc .vmem S640x2048 .bf16) (arg12 : Memref sig .tc .vmem S2048x640 .bf16) (arg13 : Memref sig .tc .vmem S80x128 .f32) (arg14 : Memref sig .tc .vmem S128x128 .f32) (arg15 : Memref sig .tc .vmem S1024x128 .i32) (arg16 : Memref sig .tc .vmem S512x128 .i32) : Refs := fun b => match b with
  | .x => arg2 | .k => arg3 | .v => arg4 | .out => arg5 | .qc => arg6 | .qs => arg7 | .kc => arg8 | .ks => arg9 | .mean => arg10
  | .kcode => arg11 | .vt => arg12 | .kscale => arg13 | .mask => arg14 | .qc32 => arg15 | .kc32 => arg16

end Cert.KernelIdeal.Hand
-- ==== Proof.Step.lean ====
/-
  One step of comparing two programs.
-/
module

public import proofs.«01_k».proof.Proof.Model

@[expose] public section

namespace Cert.KernelIdeal.Hand

open Idealize.SL.Sem

/-- Two programs that request the same effect and agree on every response are equal. -/
theorem op_congr {α β : Type} {E : Type → Type} {e : E β} {k k' : β → Prog E α} (h : ∀ v, k v = k' v) : Prog.op e k = Prog.op e k' := by
  rw [funext h]

end Cert.KernelIdeal.Hand
-- ==== Proof.Branch00.lean ====
/-
  The printed body at block 0 of the first sequence is the parametric body with every loop written out.
-/
module

public import proofs.«01_k».proof.Proof.Step

@[expose] public section

noncomputable section

namespace Cert.KernelIdeal.Hand

open Idealize.ShloMosaic Idealize.ShloMosaic.TcCoe
open Idealize.SL.Sem
open Cert.KernelIdeal.Gen

variable {F : FTy → Type} [FloatOps F] [Named F]

attribute [local irreducible] shapeCast multiReduction extractStridedSlice concatenate broadcastTo broadcast transpose select andi cmpi cmpf
  iota extf truncf subf addf mulf divf absf maximumf minimumf roundeven fptosi packElementwiseInt bitcast exp2 constant

set_option maxRecDepth 10000 in
set_option maxHeartbeats 40000000 in
/-- The body at block 0 of the first sequence, step by step the parametric one. -/
theorem branch00 (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hR : ∀ b, (refs arg2 arg3 arg4 arg5 arg6 arg7 arg8 arg9 arg10 arg11 arg12 arg13 arg14 arg15 arg16 b).IsWhole)
    (h1 :  Scalar.cmpi .ne (Scalar.extui (Scalar.andi (Scalar.cmpi .eq (BitVec.ofNat 32 (i 0).val) 0#32)
      (Scalar.cmpi .eq (BitVec.ofNat 32 (i 1).val) 0#32))) 0#32 = 1#1)
    (h2 : k0_cond2 i = 1#1) (h3 : ¬ k0_cond3 i = 1#1) (h4 : ¬ k0_cond4 i = 1#1) (h5 : ¬ k0_cond5 i = 1#1) (h6 : ¬ k0_cond6 i = 1#1) :
    cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
      = (body (R := refs arg2 arg3 arg4 arg5 arg6 arg7 arg8 arg9 arg10 arg11 arg12 arg13 arg14 arg15 arg16) hR true 0 (by decide) (k0_off1 i) (k0_off1_inb i h2)).prog >>= fun _ => pure ⟨⟩ := by
  unfold cc0_attn
  rw [dif_pos h1, dif_pos h2, dif_neg h3, dif_neg h4, dif_neg h5, dif_neg h6]
  repeat (refine op_congr ?_; intro _)
  rfl

end Cert.KernelIdeal.Hand
-- ==== Proof.Branch0.lean ====
/-
  The printed body at block 0 of a later sequence is the parametric body with every loop written out.
-/
module

public import proofs.«01_k».proof.Proof.Step

@[expose] public section

noncomputable section

namespace Cert.KernelIdeal.Hand

open Idealize.ShloMosaic Idealize.ShloMosaic.TcCoe
open Idealize.SL.Sem
open Cert.KernelIdeal.Gen

variable {F : FTy → Type} [FloatOps F] [Named F]

attribute [local irreducible] shapeCast multiReduction extractStridedSlice concatenate broadcastTo broadcast transpose select andi cmpi cmpf
  iota extf truncf subf addf mulf divf absf maximumf minimumf roundeven fptosi packElementwiseInt bitcast exp2 constant

set_option maxRecDepth 10000 in
set_option maxHeartbeats 40000000 in
/-- The body at block 0 of a later sequence, step by step the parametric one. -/
theorem branch0 (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hR : ∀ b, (refs arg2 arg3 arg4 arg5 arg6 arg7 arg8 arg9 arg10 arg11 arg12 arg13 arg14 arg15 arg16 b).IsWhole)
    (h1 : ¬ Scalar.cmpi .ne (Scalar.extui (Scalar.andi (Scalar.cmpi .eq (BitVec.ofNat 32 (i 0).val) 0#32)
      (Scalar.cmpi .eq (BitVec.ofNat 32 (i 1).val) 0#32))) 0#32 = 1#1)
    (h2 : k0_cond2 i = 1#1) (h3 : ¬ k0_cond3 i = 1#1) (h4 : ¬ k0_cond4 i = 1#1) (h5 : ¬ k0_cond5 i = 1#1) (h6 : ¬ k0_cond6 i = 1#1) :
    cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
      = (body (R := refs arg2 arg3 arg4 arg5 arg6 arg7 arg8 arg9 arg10 arg11 arg12 arg13 arg14 arg15 arg16) hR false 0 (by decide) (k0_off1 i) (k0_off1_inb i h2)).prog >>= fun _ => pure ⟨⟩ := by
  unfold cc0_attn
  rw [dif_neg h1, dif_pos h2, dif_neg h3, dif_neg h4, dif_neg h5, dif_neg h6]
  repeat (refine op_congr ?_; intro _)
  rfl

end Cert.KernelIdeal.Hand
-- ==== Proof.Branch1.lean ====
/-
  The printed body at block 1 is the parametric body with every loop written out.
-/
module

public import proofs.«01_k».proof.Proof.Step

@[expose] public section

noncomputable section

namespace Cert.KernelIdeal.Hand

open Idealize.ShloMosaic Idealize.ShloMosaic.TcCoe
open Idealize.SL.Sem
open Cert.KernelIdeal.Gen

variable {F : FTy → Type} [FloatOps F] [Named F]

attribute [local irreducible] shapeCast multiReduction extractStridedSlice concatenate broadcastTo broadcast transpose select andi cmpi cmpf
  iota extf truncf subf addf mulf divf absf maximumf minimumf roundeven fptosi packElementwiseInt bitcast exp2 constant

set_option maxRecDepth 10000 in
set_option maxHeartbeats 40000000 in
/-- The body at block 1, step by step the parametric one. -/
theorem branch1 (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hR : ∀ b, (refs arg2 arg3 arg4 arg5 arg6 arg7 arg8 arg9 arg10 arg11 arg12 arg13 arg14 arg15 arg16 b).IsWhole)
    (h1 : ¬ Scalar.cmpi .ne (Scalar.extui (Scalar.andi (Scalar.cmpi .eq (BitVec.ofNat 32 (i 0).val) 0#32)
      (Scalar.cmpi .eq (BitVec.ofNat 32 (i 1).val) 0#32))) 0#32 = 1#1)
    (h2 : ¬ k0_cond2 i = 1#1) (h3 : k0_cond3 i = 1#1) (h4 : ¬ k0_cond4 i = 1#1) (h5 : ¬ k0_cond5 i = 1#1) (h6 : ¬ k0_cond6 i = 1#1) :
    cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
      = (body (R := refs arg2 arg3 arg4 arg5 arg6 arg7 arg8 arg9 arg10 arg11 arg12 arg13 arg14 arg15 arg16) hR false 1 (by decide) (k0_off2 i) (k0_off2_inb i h3)).prog >>= fun _ => pure ⟨⟩ := by
  unfold cc0_attn
  rw [dif_neg h1, dif_neg h2, dif_pos h3, dif_neg h4, dif_neg h5, dif_neg h6]
  repeat (refine op_congr ?_; intro _)
  rfl

end Cert.KernelIdeal.Hand
-- ==== Proof.Branch2.lean ====
/-
  The printed body at block 2 is the parametric body with every loop written out.
-/
module

public import proofs.«01_k».proof.Proof.Step

@[expose] public section

noncomputable section

namespace Cert.KernelIdeal.Hand

open Idealize.ShloMosaic Idealize.ShloMosaic.TcCoe
open Idealize.SL.Sem
open Cert.KernelIdeal.Gen

variable {F : FTy → Type} [FloatOps F] [Named F]

attribute [local irreducible] shapeCast multiReduction extractStridedSlice concatenate broadcastTo broadcast transpose select andi cmpi cmpf
  iota extf truncf subf addf mulf divf absf maximumf minimumf roundeven fptosi packElementwiseInt bitcast exp2 constant

set_option maxRecDepth 10000 in
set_option maxHeartbeats 40000000 in
/-- The body at block 2, step by step the parametric one. -/
theorem branch2 (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hR : ∀ b, (refs arg2 arg3 arg4 arg5 arg6 arg7 arg8 arg9 arg10 arg11 arg12 arg13 arg14 arg15 arg16 b).IsWhole)
    (h1 : ¬ Scalar.cmpi .ne (Scalar.extui (Scalar.andi (Scalar.cmpi .eq (BitVec.ofNat 32 (i 0).val) 0#32)
      (Scalar.cmpi .eq (BitVec.ofNat 32 (i 1).val) 0#32))) 0#32 = 1#1)
    (h2 : ¬ k0_cond2 i = 1#1) (h3 : ¬ k0_cond3 i = 1#1) (h4 : k0_cond4 i = 1#1) (h5 : ¬ k0_cond5 i = 1#1) (h6 : ¬ k0_cond6 i = 1#1) :
    cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
      = (body (R := refs arg2 arg3 arg4 arg5 arg6 arg7 arg8 arg9 arg10 arg11 arg12 arg13 arg14 arg15 arg16) hR false 2 (by decide) (k0_off3 i) (k0_off3_inb i h4)).prog >>= fun _ => pure ⟨⟩ := by
  unfold cc0_attn
  rw [dif_neg h1, dif_neg h2, dif_neg h3, dif_pos h4, dif_neg h5, dif_neg h6]
  repeat (refine op_congr ?_; intro _)
  rfl

end Cert.KernelIdeal.Hand
-- ==== Proof.Branch3.lean ====
/-
  The printed body at block 3 is the parametric body with every loop written out.
-/
module

public import proofs.«01_k».proof.Proof.Step

@[expose] public section

noncomputable section

namespace Cert.KernelIdeal.Hand

open Idealize.ShloMosaic Idealize.ShloMosaic.TcCoe
open Idealize.SL.Sem
open Cert.KernelIdeal.Gen

variable {F : FTy → Type} [FloatOps F] [Named F]

attribute [local irreducible] shapeCast multiReduction extractStridedSlice concatenate broadcastTo broadcast transpose select andi cmpi cmpf
  iota extf truncf subf addf mulf divf absf maximumf minimumf roundeven fptosi packElementwiseInt bitcast exp2 constant

set_option maxRecDepth 10000 in
set_option maxHeartbeats 40000000 in
/-- The body at block 3, step by step the parametric one. -/
theorem branch3 (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hR : ∀ b, (refs arg2 arg3 arg4 arg5 arg6 arg7 arg8 arg9 arg10 arg11 arg12 arg13 arg14 arg15 arg16 b).IsWhole)
    (h1 : ¬ Scalar.cmpi .ne (Scalar.extui (Scalar.andi (Scalar.cmpi .eq (BitVec.ofNat 32 (i 0).val) 0#32)
      (Scalar.cmpi .eq (BitVec.ofNat 32 (i 1).val) 0#32))) 0#32 = 1#1)
    (h2 : ¬ k0_cond2 i = 1#1) (h3 : ¬ k0_cond3 i = 1#1) (h4 : ¬ k0_cond4 i = 1#1) (h5 : k0_cond5 i = 1#1) (h6 : ¬ k0_cond6 i = 1#1) :
    cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
      = (body (R := refs arg2 arg3 arg4 arg5 arg6 arg7 arg8 arg9 arg10 arg11 arg12 arg13 arg14 arg15 arg16) hR false 3 (by decide) (k0_off4 i) (k0_off4_inb i h5)).prog >>= fun _ => pure ⟨⟩ := by
  unfold cc0_attn
  rw [dif_neg h1, dif_neg h2, dif_neg h3, dif_neg h4, dif_pos h5, dif_neg h6]
  repeat (refine op_congr ?_; intro _)
  rfl

end Cert.KernelIdeal.Hand
-- ==== Proof.Branch4.lean ====
/-
  The printed body at block 4 is the parametric body with every loop written out.
-/
module

public import proofs.«01_k».proof.Proof.Step

@[expose] public section

noncomputable section

namespace Cert.KernelIdeal.Hand

open Idealize.ShloMosaic Idealize.ShloMosaic.TcCoe
open Idealize.SL.Sem
open Cert.KernelIdeal.Gen

variable {F : FTy → Type} [FloatOps F] [Named F]

attribute [local irreducible] shapeCast multiReduction extractStridedSlice concatenate broadcastTo broadcast transpose select andi cmpi cmpf
  iota extf truncf subf addf mulf divf absf maximumf minimumf roundeven fptosi packElementwiseInt bitcast exp2 constant

set_option maxRecDepth 10000 in
set_option maxHeartbeats 40000000 in
/-- The body at block 4, step by step the parametric one. -/
theorem branch4 (i : grid0.Coords) (arg2 : Memref sig .tc .vmem S1x128x4096 .bf16) (harg2 : arg2.IsWhole) (arg3 : Memref sig .tc .vmem S1x640x2048 .bf16) (harg3 : arg3.IsWhole) (arg4 : Memref sig .tc .vmem S1x128x2048 .bf16) (harg4 : arg4.IsWhole) (arg5 : Memref sig .tc .vmem S1x128x4096 .bf16) (harg5 : arg5.IsWhole) (arg6 : Memref sig .tc .vmem S4096x128 .i8) (harg6 : arg6.IsWhole) (arg7 : Memref sig .tc .vmem S5x3x16 .f32) (harg7 : arg7.IsWhole) (arg8 : Memref sig .tc .vmem S2048x128 .i8) (harg8 : arg8.IsWhole) (arg9 : Memref sig .tc .vmem S1x8x10 .f32) (harg9 : arg9.IsWhole) (arg10 : Memref sig .tc .vmem S1x2048 .f32) (harg10 : arg10.IsWhole) (arg11 : Memref sig .tc .vmem S640x2048 .bf16) (harg11 : arg11.IsWhole) (arg12 : Memref sig .tc .vmem S2048x640 .bf16) (harg12 : arg12.IsWhole) (arg13 : Memref sig .tc .vmem S80x128 .f32) (harg13 : arg13.IsWhole) (arg14 : Memref sig .tc .vmem S128x128 .f32) (harg14 : arg14.IsWhole) (arg15 : Memref sig .tc .vmem S1024x128 .i32) (harg15 : arg15.IsWhole) (arg16 : Memref sig .tc .vmem S512x128 .i32) (harg16 : arg16.IsWhole) (hR : ∀ b, (refs arg2 arg3 arg4 arg5 arg6 arg7 arg8 arg9 arg10 arg11 arg12 arg13 arg14 arg15 arg16 b).IsWhole)
    (h1 : ¬ Scalar.cmpi .ne (Scalar.extui (Scalar.andi (Scalar.cmpi .eq (BitVec.ofNat 32 (i 0).val) 0#32)
      (Scalar.cmpi .eq (BitVec.ofNat 32 (i 1).val) 0#32))) 0#32 = 1#1)
    (h2 : ¬ k0_cond2 i = 1#1) (h3 : ¬ k0_cond3 i = 1#1) (h4 : ¬ k0_cond4 i = 1#1) (h5 : ¬ k0_cond5 i = 1#1) (h6 : k0_cond6 i = 1#1) :
    cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
      = (body (R := refs arg2 arg3 arg4 arg5 arg6 arg7 arg8 arg9 arg10 arg11 arg12 arg13 arg14 arg15 arg16) hR false 4 (by decide) (k0_off5 i) (k0_off5_inb i h6)).prog >>= fun _ => pure ⟨⟩ := by
  unfold cc0_attn
  rw [dif_neg h1, dif_neg h2, dif_neg h3, dif_neg h4, dif_neg h5, dif_pos h6]
  repeat (refine op_congr ?_; intro _)
  rfl

end Cert.KernelIdeal.Hand
-- ==== Proof.Calls.lean ====
/-
  The body at a grid point is the parametric body of the point's block.
-/
module

public import proofs.«01_k».proof.Proof.Branch00
public import proofs.«01_k».proof.Proof.Branch0
public import proofs.«01_k».proof.Proof.Branch1
public import proofs.«01_k».proof.Proof.Branch2
public import proofs.«01_k».proof.Proof.Branch3
public import proofs.«01_k».proof.Proof.Branch4
public import proofs.«01_k».proof.Proof.FrameIdeal.Runs

@[expose] public section
noncomputable section
namespace Cert.KernelIdeal.Hand
open Idealize.ShloMosaic Idealize.ShloMosaic.TcCoe
open Idealize.SL.Sem
open Cert.KernelIdeal.Gen

variable {F : FTy → Type} [FloatOps F] [Named F]

/-- The buffers of the body at point `t`: the windows' current staging buffers and the scratch. -/
abbrev stageRefs (t : Fin cfg0.N) : Refs :=
  refs (ms0_0 t) (ms0_1 t) (ms0_2 t) (ms0_3 t) (ms0_4 t) (ms0_5 t) (ms0_6 t) (ms0_7 t) scM0_0 scM0_1 scM0_2 scM0_3 scM0_4 scM0_5 scM0_6

/-- They are whole buffers. -/
theorem stageRefs_whole (t : Fin cfg0.N) (b : B) : (stageRefs t b).IsWhole := by
  cases b
  exacts [hs0_0 t, hs0_1 t, hs0_2 t, hs0_3 t, hs0_4 t, hs0_5 t, hs0_6 t, hs0_7 t, Memref.isWhole_whole _, Memref.isWhole_whole _,
    Memref.isWhole_whole _, Memref.isWhole_whole _, Memref.isWhole_whole _, Memref.isWhole_whole _, Memref.isWhole_whole _]

/-- At every point the printed body is the parametric body of the point's block, with the mask made at the first point. -/
theorem body_at (t : Fin cfg0.N) : ∃ (first : Bool) (n : Nat) (hi : n < 5) (off : Fin 3 → Nat) (ho : _), (first = true ↔ t.val = 0) ∧ t.val % 5 = n
    ∧ bodyAt0 (F := F) t = (body (R := stageRefs t) (stageRefs_whole t) first n hi off ho).prog >>= fun _ => pure ⟨⟩ := by
  have ht : t.val < 15 := lt_of_lt_of_eq t.isLt N_0
  have c0 := hcond0_0 t
  have c1 := hcond0_1 t
  have c2 := hcond0_2 t
  have c3 := hcond0_3 t
  have c4 := hcond0_4 t
  have c5 := hcond0_5 t
  by_cases h : t.val = 0
  · exact ⟨true, 0, _, _, _, ⟨fun _ => h, fun _ => rfl⟩, by omega, branch00 (grid0.coords t) _ _ _ _ _ _ _ _ _ _ _ _ _ _ _ _ _ _ _ _ _ _ _ _ _ _ _ _ _ _ (stageRefs_whole t) (c0.mpr (by omega)) (c1.mpr (by omega)) (fun a => absurd (c2.mp a) (by omega)) (fun a => absurd (c3.mp a) (by omega)) (fun a => absurd (c4.mp a) (by omega)) (fun a => absurd (c5.mp a) (by omega))⟩
  have h5 : t.val % 5 < 5 := Nat.mod_lt _ (by decide)
  obtain e | e | e | e | e : t.val % 5 = 0 ∨ t.val % 5 = 1 ∨ t.val % 5 = 2 ∨ t.val % 5 = 3 ∨ t.val % 5 = 4 := by omega
  · exact ⟨false, 0, _, _, _, ⟨fun a => Bool.noConfusion a, fun a => absurd a (by omega)⟩, by omega, branch0 (grid0.coords t) _ _ _ _ _ _ _ _ _ _ _ _ _ _ _ _ _ _ _ _ _ _ _ _ _ _ _ _ _ _ (stageRefs_whole t) (fun a => absurd (c0.mp a) (by omega)) (c1.mpr (by omega)) (fun a => absurd (c2.mp a) (by omega)) (fun a => absurd (c3.mp a) (by omega)) (fun a => absurd (c4.mp a) (by omega)) (fun a => absurd (c5.mp a) (by omega))⟩
  · exact ⟨false, 1, _, _, _, ⟨fun a => Bool.noConfusion a, fun a => absurd a (by omega)⟩, by omega, branch1 (grid0.coords t) _ _ _ _ _ _ _ _ _ _ _ _ _ _ _ _ _ _ _ _ _ _ _ _ _ _ _ _ _ _ (stageRefs_whole t) (fun a => absurd (c0.mp a) (by omega)) (fun a => absurd (c1.mp a) (by omega)) (c2.mpr (by omega)) (fun a => absurd (c3.mp a) (by omega)) (fun a => absurd (c4.mp a) (by omega)) (fun a => absurd (c5.mp a) (by omega))⟩
  · exact ⟨false, 2, _, _, _, ⟨fun a => Bool.noConfusion a, fun a => absurd a (by omega)⟩, by omega, branch2 (grid0.coords t) _ _ _ _ _ _ _ _ _ _ _ _ _ _ _ _ _ _ _ _ _ _ _ _ _ _ _ _ _ _ (stageRefs_whole t) (fun a => absurd (c0.mp a) (by omega)) (fun a => absurd (c1.mp a) (by omega)) (fun a => absurd (c2.mp a) (by omega)) (c3.mpr (by omega)) (fun a => absurd (c4.mp a) (by omega)) (fun a => absurd (c5.mp a) (by omega))⟩
  · exact ⟨false, 3, _, _, _, ⟨fun a => Bool.noConfusion a, fun a => absurd a (by omega)⟩, by omega, branch3 (grid0.coords t) _ _ _ _ _ _ _ _ _ _ _ _ _ _ _ _ _ _ _ _ _ _ _ _ _ _ _ _ _ _ (stageRefs_whole t) (fun a => absurd (c0.mp a) (by omega)) (fun a => absurd (c1.mp a) (by omega)) (fun a => absurd (c2.mp a) (by omega)) (fun a => absurd (c3.mp a) (by omega)) (c4.mpr (by omega)) (fun a => absurd (c5.mp a) (by omega))⟩
  · exact ⟨false, 4, _, _, _, ⟨fun a => Bool.noConfusion a, fun a => absurd a (by omega)⟩, by omega, branch4 (grid0.coords t) _ _ _ _ _ _ _ _ _ _ _ _ _ _ _ _ _ _ _ _ _ _ _ _ _ _ _ _ _ _ (stageRefs_whole t) (fun a => absurd (c0.mp a) (by omega)) (fun a => absurd (c1.mp a) (by omega)) (fun a => absurd (c2.mp a) (by omega)) (fun a => absurd (c3.mp a) (by omega)) (fun a => absurd (c4.mp a) (by omega)) (c5.mpr (by omega))⟩

end Cert.KernelIdeal.Hand
-- ==== Proof.Run.lean ====
/-
  The launch with the body given as an `Act`: if what the body computes carries an invariant of the scratch from each
  grid point to the next and leaves a block of attention with a property, then every run ends with every block of the
  result array having that property.
-/
module

public import proofs.«01_k».proof.Proof.Calls
public import proofs.«01_k».proof.Proof.FrameIdeal
public import Idealize.ShloMosaic.Lib.Pipeline.ArrRel

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- All fifteen buffers, one after another. -/
theorem holds_eq (c : Dev nD) (R : Refs) (σ : St F) :
    (holds c R σ : sProp 𝕄) = iprop(owns (c : Thread nD τ) (R .x) fullShare (σ .x) ∗ owns (c : Thread nD τ) (R .k) fullShare (σ .k)
      ∗ owns (c : Thread nD τ) (R .v) fullShare (σ .v) ∗ owns (c : Thread nD τ) (R .out) fullShare (σ .out)
      ∗ owns (c : Thread nD τ) (R .qc) fullShare (σ .qc) ∗ owns (c : Thread nD τ) (R .qs) fullShare (σ .qs)
      ∗ owns (c : Thread nD τ) (R .kc) fullShare (σ .kc) ∗ owns (c : Thread nD τ) (R .ks) fullShare (σ .ks)
      ∗ owns (c : Thread nD τ) (R .mean) fullShare (σ .mean) ∗ owns (c : Thread nD τ) (R .kcode) fullShare (σ .kcode)
      ∗ owns (c : Thread nD τ) (R .vt) fullShare (σ .vt) ∗ owns (c : Thread nD τ) (R .kscale) fullShare (σ .kscale)
      ∗ owns (c : Thread nD τ) (R .mask) fullShare (σ .mask) ∗ owns (c : Thread nD τ) (R .qc32) fullShare (σ .qc32)
      ∗ owns (c : Thread nD τ) (R .kc32) fullShare (σ .kc32)) :=
  bigSep_univ_eq_bigSepL [B.x, .k, .v, .out, .qc, .qs, .kc, .ks, .mean, .kcode, .vt, .kscale, .mask, .qc32, .kc32] (by decide)
    (by decide) _

/-- The scratch alone, at the contents `σ` gives it. -/
def scratch (c : Dev nD) (σ : St F) : sProp 𝕄 :=
  iprop(owns (c : Thread nD τ) scM0_0 fullShare (σ .mean) ∗ owns (c : Thread nD τ) scM0_1 fullShare (σ .kcode)
    ∗ owns (c : Thread nD τ) scM0_2 fullShare (σ .vt) ∗ owns (c : Thread nD τ) scM0_3 fullShare (σ .kscale)
    ∗ owns (c : Thread nD τ) scM0_4 fullShare (σ .mask) ∗ owns (c : Thread nD τ) scM0_5 fullShare (σ .qc32)
    ∗ owns (c : Thread nD τ) scM0_6 fullShare (σ .kc32))

/-- Contents of every buffer from the windows' and the scratch's. -/
def mkSt (x : S1x128x4096.Idx → Elt F .bf16) (k : S1x640x2048.Idx → Elt F .bf16) (v : S1x128x2048.Idx → Elt F .bf16)
    (o : S1x128x4096.Idx → Elt F .bf16) (qc : S4096x128.Idx → Elt F .i8) (qs : S5x3x16.Idx → Elt F .f32) (kc : S2048x128.Idx → Elt F .i8)
    (ks : S1x8x10.Idx → Elt F .f32) (σ : St F) : St F := fun b => match b with
  | .x => x | .k => k | .v => v | .out => o | .qc => qc | .qs => qs | .kc => kc | .ks => ks
  | .mean => σ .mean | .kcode => σ .kcode | .vt => σ .vt | .kscale => σ .kscale | .mask => σ .mask | .qc32 => σ .qc32 | .kc32 => σ .kc32

/-- Two contents that give the scratch the body reads the same. -/
def SameScratch (σ σ' : St F) : Prop :=
  σ .mean = σ' .mean ∧ σ .kcode = σ' .kcode ∧ σ .vt = σ' .vt ∧ σ .kscale = σ' .kscale ∧ σ .mask = σ' .mask

variable (Inv : Dev nD → ℕ → St F → Prop) (Out : Dev nD → Fin cfg0.N → (S1x128x4096.Idx → Elt F .bf16) → Prop)

/-- The launch's data: the inputs' blocks, a block of attention with the property at every point, nothing of the other
    results; between points the scratch at contents with the invariant. -/
def rdat (c : Dev nD) : RDat τ (Elt F) Unit ℕ (UR sig nD τ) ℕ cfg0 c where
  A w := V m c (Pipeline.arrRef spec0 w)
  after w t := match w with
    | ⟨0, _⟩ => fun _ X => X = iblk m c 0 t
    | ⟨1, _⟩ => fun _ X => X = iblk m c 1 t
    | ⟨2, _⟩ => fun _ X => X = iblk m c 2 t
    | ⟨3, _⟩ => fun _ X => Out c t X
    | ⟨4, _⟩ => fun _ _ => True
    | ⟨5, _⟩ => fun _ _ => True
    | ⟨6, _⟩ => fun _ _ => True
    | ⟨7, _⟩ => fun _ _ => True
  Φ n := iprop((∃ σ : St F, ⌜Inv c n.val σ⌝ ∗ scratch c σ) ∗ (∃ r, prngReg c r))
  q _ := fullShare
  owed _ := 0

/-- An input's current staging buffer holds its block. -/
theorem finds_0 (c : Dev nD) (t : Fin cfg0.N) (Y) (h : (rdat m Inv Out c).Finds 0 t Y) : Y = iblk m c 0 t := by
  have e := (Pipeline.RDat.finds_congr (rd := (dats m 0 c).toRForget forgets0) (rd' := rdat m Inv Out c) (w := 0) rfl
    (by funext t Y X; rw [Pipeline.Dat.toRForget_after_of_eq_false _ rfl]; rfl) t Y).mp h
  obtain ⟨d, hd⟩ := (dats m 0 c).toRForget_finds (fgt := forgets0) (w := 0) rfl t Y e
  exact hd.trans (before0_0 m c t d)

theorem finds_1 (c : Dev nD) (t : Fin cfg0.N) (Y) (h : (rdat m Inv Out c).Finds 1 t Y) : Y = iblk m c 1 t := by
  have e := (Pipeline.RDat.finds_congr (rd := (dats m 0 c).toRForget forgets0) (rd' := rdat m Inv Out c) (w := 1) rfl
    (by funext t Y X; rw [Pipeline.Dat.toRForget_after_of_eq_false _ rfl]; rfl) t Y).mp h
  obtain ⟨d, hd⟩ := (dats m 0 c).toRForget_finds (fgt := forgets0) (w := 1) rfl t Y e
  exact hd.trans (before0_1 m c t d)

theorem finds_2 (c : Dev nD) (t : Fin cfg0.N) (Y) (h : (rdat m Inv Out c).Finds 2 t Y) : Y = iblk m c 2 t := by
  have e := (Pipeline.RDat.finds_congr (rd := (dats m 0 c).toRForget forgets0) (rd' := rdat m Inv Out c) (w := 2) rfl
    (by funext t Y X; rw [Pipeline.Dat.toRForget_after_of_eq_false _ rfl]; rfl) t Y).mp h
  obtain ⟨d, hd⟩ := (dats m 0 c).toRForget_finds (fgt := forgets0) (w := 2) rfl t Y e
  exact hd.trans (before0_2 m c t d)

/-- What the body, as an `Act`, has to do at point `t`. -/
def Does (c : Dev nD) (t : Fin cfg0.N) : Prop :=
  ∃ A : Act F (stageRefs t) PUnit, bodyAt0 (F := F) t = (A.prog >>= fun _ => pure ⟨⟩) ∧
    ∀ σ : St F, Inv c t.val σ → σ .x = iblk m c 0 t → σ .k = iblk m c 1 t → σ .v = iblk m c 2 t →
      (A.sem σ).2 .x = iblk m c 0 t ∧ (A.sem σ).2 .k = iblk m c 1 t ∧ (A.sem σ).2 .v = iblk m c 2 t
        ∧ Out c t ((A.sem σ).2 .out) ∧ Inv c (t.val + 1) (A.sem σ).2

variable (hsame : ∀ c n (σ σ' : St F), SameScratch σ σ' → Inv c n σ → Inv c n σ')

include hsame in
/-- The library's body obligation from what the body does. -/
theorem obligation (c : Dev nD) (hdo : ∀ t, Does m Inv Out c t) :
    (rdat m Inv Out c).BodyObligation (defs₀ (F := F)) Variants.none () Set.univ := by
  intro t Y hY
  obtain ⟨A, hA, hs⟩ := hdo t
  have h0 := finds_0 m Inv Out c t _ (hY 0)
  have h1 := finds_1 m Inv Out c t _ (hY 1)
  have h2 := finds_2 m Inv Out c t _ (hY 2)
  rw [bigSep_W0, bigSep_W0, defs₀_row, hA, wp_bind]
  show iprop(iprop((∃ σ : St F, ⌜Inv c t.val σ⌝ ∗ scratch c σ) ∗ (∃ r, prngReg c r)) ∗ _) ⊢ _
  iintro ⟨⟨⟨%σ, %hσ, HS⟩, Hg⟩, Ho, H0, H1, H2, H3, H4, H5, H6, H7⟩
  have hI : Inv c t.val (mkSt (Y 0) (Y 1) (Y 2) (Y 3) (Y 4) (Y 5) (Y 6) (Y 7) σ) := hsame c _ σ _ ⟨rfl, rfl, rfl, rfl, rfl⟩ hσ
  obtain ⟨e0, e1, e2, e3, e4⟩ := hs _ hI h0 h1 h2
  iapply (A.sound c Set.univ (mkSt (Y 0) (Y 1) (Y 2) (Y 3) (Y 4) (Y 5) (Y 6) (Y 7) σ) _)
  isplitl [HS H0 H1 H2 H3 H4 H5 H6 H7]
  · rw [holds_eq]
    unfold scratch
    icases HS with ⟨S0, S1, S2, S3, S4, S5, S6⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    isplitl [S5]; · iexact S5
    iexact S6
  generalize hσ' : (A.sem (mkSt (Y 0) (Y 1) (Y 2) (Y 3) (Y 4) (Y 5) (Y 6) (Y 7) σ)).2 = σ' at e0 e1 e2 e3 e4 ⊢
  rw [holds_eq, show (pure ⟨⟩ : Prog (TpuEff nD τ sig (Elt F) Λ₀ .tc) PUnit) = .ret ⟨⟩ from rfl, wp_ret]
  iintro ⟨H0, H1, H2, H3, H4, H5, H6, H7, S0, S1, S2, S3, S4, S5, S6⟩
  iapply BI.fupd_intro
  rw [show (rdat m Inv Out c).Φ t.succ = iprop((∃ σ : St F, ⌜Inv c (t.val + 1) σ⌝ ∗ scratch c σ) ∗ (∃ r, prngReg c r)) from rfl]
  isplitl [S0 S1 S2 S3 S4 S5 S6 Hg]
  · isplitl [S0 S1 S2 S3 S4 S5 S6]
    · iexists σ'
      isplitr; · ipureintro; exact e4
      unfold scratch
      isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]
  · iexists _; isplitr; · ipureintro; exact e0
    iexact H0
  isplitl [H1]
  · iexists _; isplitr; · ipureintro; exact e1
    iexact H1
  isplitl [H2]
  · iexists _; isplitr; · ipureintro; exact e2
    iexact H2
  isplitl [H3]
  · iexists _; isplitr; · ipureintro; exact e3
    iexact H3
  isplitl [H4]
  · iexists (σ' .qc); isplitr; · ipureintro; exact trivial
    iexact H4
  isplitl [H5]
  · iexists (σ' .qs); isplitr; · ipureintro; exact trivial
    iexact H5
  isplitl [H6]
  · iexists (σ' .kc); isplitr; · ipureintro; exact trivial
    iexact H6
  iexists (σ' .ks); isplitr; · ipureintro; exact trivial
  iexact H7

/-- The invariant at the start, from the scratch at any contents. -/
theorem hin' (c : Dev nD) (h0 : ∀ σ, Inv c 0 σ) : Pipeline.ΦA spec0 c ⊢ (rdat m Inv Out c).Φ 0 := by
  rw [PhiA0_eq]
  show _ ⊢ iprop((∃ σ : St F, ⌜Inv c 0 σ⌝ ∗ scratch c σ) ∗ (∃ r, prngReg c r))
  iintro ⟨⟨⟨%d0, S0⟩, ⟨%d1, S1⟩, ⟨%d2, S2⟩, ⟨%d3, S3⟩, ⟨%d4, S4⟩, ⟨%d5, S5⟩, ⟨%d6, S6⟩⟩, Hg⟩
  isplitl [S0 S1 S2 S3 S4 S5 S6]
  · iexists (fun b => match b with
      | .x => fun _ => Scalar.ofBits .bf16 0#16 | .k => fun _ => Scalar.ofBits .bf16 0#16 | .v => fun _ => Scalar.ofBits .bf16 0#16
      | .out => fun _ => Scalar.ofBits .bf16 0#16 | .qc => fun _ => (0#8 : BitVec 8) | .qs => fun _ => Scalar.ofBits .f32 0#32
      | .kc => fun _ => (0#8 : BitVec 8) | .ks => fun _ => Scalar.ofBits .f32 0#32
      | .mean => d0 | .kcode => d1 | .vt => d2 | .kscale => d3 | .mask => d4 | .qc32 => d5 | .kc32 => d6 : St F)
    isplitr; · ipureintro; exact h0 _
    unfold scratch
    isplitl [S0]; · iexact S0
    isplitl [S1]; · iexact S1
    isplitl [S2]; · iexact S2
    isplitl [S3]; · iexact S3
    isplitl [S4]; · iexact S4
    isplitl [S5]; · iexact S5
    iexact S6
  iexact Hg

/-- After the last point the scratch's contents are forgotten. -/
theorem hout' (c : Dev nD) : (rdat m Inv Out c).Φ (Fin.last cfg0.N) ⊢ Pipeline.ΦA spec0 c := by
  rw [PhiA0_eq]
  show iprop((∃ σ : St F, ⌜Inv c _ σ⌝ ∗ scratch c σ) ∗ (∃ r, prngReg c r)) ⊢ _
  iintro ⟨⟨%σ, %hσ, HS⟩, Hg⟩
  unfold scratch
  icases HS with ⟨S0, S1, S2, S3, S4, S5, S6⟩
  isplitl [S0 S1 S2 S3 S4 S5 S6]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  iexact Hg

include hsame in
set_option backward.isDefEq.respectTransparency.types false in
set_option maxHeartbeats 800000 in
/-- The launch. -/
theorem run_rel (h0 : ∀ c σ, Inv c 0 σ) (hdo : ∀ c t, Does m Inv Out c t) :
    θ_run defs (onTc (τ := τ) (main (F := F))) (s₀ m ρ)
      (fun r => (Pipeline.RDat.FramePostR (cfgs 0) (rdat m Inv Out) T0 (V m)) r ∧ r.2.sem = fun _ => 0) :=
  Pipeline.RDat.θ_run_frame_around_T_track (Q' := _) cfgs (0 : Fin 1) launch0 defs₀ Variants.none (rdat m Inv Out) T0 m ρ main
    (hbody := fun c => obligation m Inv Out hsame c (hdo c)) (hshare := fun c => (rdat m Inv Out c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := fun _ _ => rfl) (hin := fun c => hin' m Inv Out c (h0 c)) (hout := hout' m Inv Out)

end Cert.KernelIdeal.Hand
-- ==== Proof.Sem.lean ====
/-
  What an `Act` computes, by rules: a statement about the contents before and the answer and contents after, for each
  way of composing acts; and the reads and writes of a rectangle, index by index.
-/
module

public import proofs.«01_k».proof.Proof.Model
public import Idealize.ShloMosaic.Lib.ValueIdxCore

@[expose] public section
noncomputable section
namespace Cert.KernelIdeal.Hand
open Idealize.ShloMosaic Idealize.ShloMosaic.TcCoe
open Cert.KernelIdeal.Gen
open Idealize.ShloMosaic.ValueIdx

variable {F : FTy → Type} [FloatOps F] [Named F] {R : Refs} {α β : Type}

/-- From contents with `P` the act's answer and contents have `Q`. -/
def Meets (p : Act F R α) (P : St F → Prop) (Q : α → St F → Prop) : Prop := ∀ σ, P σ → Q (p.sem σ).1 (p.sem σ).2

theorem Meets.ret {a : α} {P : St F → Prop} {Q : α → St F → Prop} (h : ∀ σ, P σ → Q a σ) : Meets (Act.ret (R := R) a) P Q := h

theorem Meets.bind {p : Act F R α} {q : α → Act F R β} {P : St F → Prop} {M : α → St F → Prop} {Q : β → St F → Prop}
    (hp : Meets p P M) (hq : ∀ a, Meets (q a) (M a) Q) : Meets (Act.bind p q) P Q :=
  fun σ h => hq _ _ (hp σ h)

theorem Meets.load {b : B} {r : LoadRect b.sh} {hl : (R b).view.LoadsAt r} {P : St F → Prop} :
    Meets (Act.load b r hl) P (fun v σ => v = (fun j => σ b (r.idx j)) ∧ P σ) := fun _ h => ⟨rfl, h⟩

theorem Meets.assign {b : B} {r : Rect b.sh} {w : r.shape.Idx → Elt F b.el} {hl hx hm} {P : St F → Prop} {Q : PUnit → St F → Prop}
    (h : ∀ σ, P σ → Q ⟨⟩ (Act.put σ b (r.overlay (σ b) w))) : Meets (Act.assign (R := R) b r w hl hx hm) P Q := h

theorem Meets.post {p : Act F R α} {P : St F → Prop} {Q Q' : α → St F → Prop} (h : Meets p P Q) (hQ : ∀ a σ, Q a σ → Q' a σ) : Meets p P Q' :=
  fun σ hσ => hQ _ _ (h σ hσ)

theorem Meets.pre {p : Act F R α} {P P' : St F → Prop} {Q : α → St F → Prop} (h : Meets p P Q) (hP : ∀ σ, P' σ → P σ) : Meets p P' Q :=
  fun σ hσ => h σ (hP σ hσ)

theorem Meets.exists_pre {ι : Prop} {p : Act F R α} {P : St F → Prop} {Q : α → St F → Prop} (h : ι → Meets p P Q) : Meets p (fun σ => ι ∧ P σ) Q :=
  fun σ hσ => h hσ.1 σ hσ.2

theorem Meets.loop (I : ℕ → α → St F → Prop) : (n : ℕ) → (f : Fin n → α → Act F R α) → (hf : ∀ (j : Fin n) (a : α), Meets (f j a) (I j.val a) (I (j.val + 1))) →
    (a : α) → Meets (Act.loop n f a) (I 0 a) (I n)
  | 0, _, _, _ => fun _ h => h
  | n + 1, f, hf, a => Meets.bind (hf 0 a) fun a => Meets.loop (fun j => I (j + 1)) n (fun j => f j.succ) (fun j a => hf j.succ a) a

/-! ## Rectangles -/

variable {γ : Type}

theorem idx2 {m n a b p q : Nat} (h) (u : Fin m) (v : Fin n) (y : Fin p) (z : Fin q) (hu : u.val = a + y.val) (hv : v.val = b + z.val) :
    (Rect.unit (s := ⟨2, ![m, n]⟩) ![a, b] ![p, q] h).toLoadRect.idx (ix2 y z) = ix2 u v := by
  funext c
  apply Fin.ext
  match c with
  | ⟨0, _⟩ => show a + 1 * y.val = u.val; omega
  | ⟨1, _⟩ => show b + 1 * z.val = v.val; omega

theorem idx3 {l m n a b c p q r : Nat} (h) (t : Fin l) (u : Fin m) (v : Fin n) (x : Fin p) (y : Fin q) (z : Fin r)
    (ht : t.val = a + x.val) (hu : u.val = b + y.val) (hv : v.val = c + z.val) :
    (Rect.unit (s := ⟨3, ![l, m, n]⟩) ![a, b, c] ![p, q, r] h).toLoadRect.idx (ix3 x y z) = ix3 t u v := by
  funext d
  apply Fin.ext
  match d with
  | ⟨0, _⟩ => show a + 1 * x.val = t.val; omega
  | ⟨1, _⟩ => show b + 1 * y.val = u.val; omega
  | ⟨2, _⟩ => show c + 1 * z.val = v.val; omega

theorem overlay2_in {m n a b p q : Nat} (h) (f : (⟨2, ![m, n]⟩ : Shape).Idx → γ) (w : (⟨2, ![p, q]⟩ : Shape).Idx → γ)
    (u : Fin m) (v : Fin n) (y : Fin p) (z : Fin q) (hu : u.val = a + y.val) (hv : v.val = b + z.val) :
    (Rect.unit (s := ⟨2, ![m, n]⟩) ![a, b] ![p, q] h).overlay f w (ix2 u v) = w (ix2 y z) := by
  rw [← idx2 h u v y z hu hv]
  exact Rect.overlay_emb _ _ _ _

theorem overlay2_out {m n a b p q : Nat} (h) (f : (⟨2, ![m, n]⟩ : Shape).Idx → γ) (w : (⟨2, ![p, q]⟩ : Shape).Idx → γ)
    (u : Fin m) (v : Fin n) (ho : u.val < a ∨ a + p ≤ u.val ∨ v.val < b ∨ b + q ≤ v.val) :
    (Rect.unit (s := ⟨2, ![m, n]⟩) ![a, b] ![p, q] h).overlay f w (ix2 u v) = f (ix2 u v) := by
  refine Rect.overlay_of_not_mem _ _ _ fun hm => ?_
  have hm := (LoadRect.mem_set _).mp hm
  obtain ⟨j, hj, e⟩ := hm 0
  obtain ⟨j', hj', e'⟩ := hm 1
  replace e : u.val = a + 1 * j := e
  replace e' : v.val = b + 1 * j' := e'
  replace hj : j < p := hj
  replace hj' : j' < q := hj'
  omega

theorem overlay3_in {l m n a b c p q r : Nat} (h) (f : (⟨3, ![l, m, n]⟩ : Shape).Idx → γ) (w : (⟨3, ![p, q, r]⟩ : Shape).Idx → γ)
    (t : Fin l) (u : Fin m) (v : Fin n) (x : Fin p) (y : Fin q) (z : Fin r)
    (ht : t.val = a + x.val) (hu : u.val = b + y.val) (hv : v.val = c + z.val) :
    (Rect.unit (s := ⟨3, ![l, m, n]⟩) ![a, b, c] ![p, q, r] h).overlay f w (ix3 t u v) = w (ix3 x y z) := by
  rw [← idx3 h t u v x y z ht hu hv]
  exact Rect.overlay_emb _ _ _ _

theorem overlay3_out {l m n a b c p q r : Nat} (h) (f : (⟨3, ![l, m, n]⟩ : Shape).Idx → γ) (w : (⟨3, ![p, q, r]⟩ : Shape).Idx → γ)
    (t : Fin l) (u : Fin m) (v : Fin n) (ho : v.val < c ∨ c + r ≤ v.val) :
    (Rect.unit (s := ⟨3, ![l, m, n]⟩) ![a, b, c] ![p, q, r] h).overlay f w (ix3 t u v) = f (ix3 t u v) := by
  refine Rect.overlay_of_not_mem _ _ _ fun hm => ?_
  have hm := (LoadRect.mem_set _).mp hm
  obtain ⟨j', hj', e'⟩ := hm 2
  replace e' : v.val = c + 1 * j' := e'
  replace hj' : j' < r := hj'
  omega

theorem put_self (σ : St F) (b : B) (X : b.sh.Idx → Elt F b.el) : Act.put σ b X b = X := Function.update_self ..

theorem put_ne (σ : St F) (b b' : B) (X : b.sh.Idx → Elt F b.el) (h : b' ≠ b) : Act.put σ b X b' = σ b' := Function.update_of_ne h ..

end Cert.KernelIdeal.Hand
-- ==== Proof.Spec.lean ====
/-
  Causal attention on quantised queries and keys, as plain mathematics on the extended reals: what both programs are
  shown to compute. One sequence, one head: `Q` a block of 128 queries, `K` and `V` the 640 keys and values.
-/
module

public import Idealize.ShloMosaic.Lib.Pointwise
public import Idealize.ShloMosaic.Lib.IdealHost

@[expose] public section

noncomputable section

namespace Cert.Attention

open Idealize.ShloMosaic

/-- The largest code, 127. -/
def top : EReal := Ideal.ofBits .f32 0x42FE0000#32

/-- The smallest code, -127. -/
def bot : EReal := Ideal.ofBits .f32 0xC2FE0000#32

/-- A scale from the largest absolute value of a block. -/
def scl (a : EReal) : EReal :=
  Scalar.select (Ideal.cmp .ogt a (Ideal.ofBits .f32 0x00000000#32)) (Ideal.div a top) (Ideal.ofBits .f32 0x3F800000#32)

/-- The absolute value. -/
def absE (x : EReal) : EReal := max x (-x)

/-- The code of a value at a scale. -/
def code (v s : EReal) : EReal := min top (max bot (Ideal.liftRound Ideal.roundHalfEven (Ideal.div v s)))

/-- The largest absolute value of a block of queries. -/
def qAmax (Q : Fin 128 → Fin 256 → EReal) : EReal := Finset.univ.sup fun r => Finset.univ.sup fun d => absE (Q r d)

/-- The keys' mean by columns. -/
def mean (K : Fin 640 → Fin 256 → EReal) (d : Fin 256) : EReal := Ideal.div (∑ s, K s d) (Ideal.ofBits .f32 0x44200000#32)

/-- Row `r` of key block `n`. -/
def krow (n : Fin 10) (r : Fin 64) : Fin 640 := ⟨n.val * 64 + r.val, by omega⟩

/-- The block a key is in. -/
def kblk (s : Fin 640) : Fin 10 := ⟨s.val / 64, by omega⟩

/-- The largest absolute value of a block of keys less their mean. -/
def kAmax (K : Fin 640 → Fin 256 → EReal) (n : Fin 10) : EReal :=
  Finset.univ.sup fun r => Finset.univ.sup fun d => absE (K (krow n r) d - mean K d)

/-- A key's codes. -/
def kCode (K : Fin 640 → Fin 256 → EReal) (s : Fin 640) (d : Fin 256) : EReal := code (K s d - mean K d) (scl (kAmax K (kblk s)))

/-- A query's codes. -/
def qCode (Q : Fin 128 → Fin 256 → EReal) (r : Fin 128) (d : Fin 256) : EReal := code (Q r d) (scl (qAmax Q))

/-- The score of key `s` at query `r`. -/
def score (Q : Fin 128 → Fin 256 → EReal) (K : Fin 640 → Fin 256 → EReal) (r : Fin 128) (s : Fin 640) : EReal :=
  (∑ d, qCode Q r d * kCode K s d) * scl (qAmax Q) * scl (kAmax K (kblk s)) * Ideal.ofBits .f32 0x3D800000#32

/-- The score where the key is not after the query, `-∞` elsewhere. -/
def masked (i : Nat) (Q : Fin 128 → Fin 256 → EReal) (K : Fin 640 → Fin 256 → EReal) (r : Fin 128) (s : Fin 640) : EReal :=
  if s.val ≤ i * 128 + r.val then score Q K r s else ⊥

/-- A key's weight at a query. -/
def weight (i : Nat) (Q : Fin 128 → Fin 256 → EReal) (K : Fin 640 → Fin 256 → EReal) (r : Fin 128) (s : Fin 640) : EReal :=
  Ideal.exp (masked i Q K r s - Finset.univ.sup (masked i Q K r))

/-- Attention. -/
def attn (i : Nat) (Q : Fin 128 → Fin 256 → EReal) (K V : Fin 640 → Fin 256 → EReal) (r : Fin 128) (d : Fin 256) : EReal :=
  Ideal.div (∑ s, weight i Q K r s * V s d) (∑ s, weight i Q K r s)

theorem ofBits_ninf : Ideal.ofBits .f32 0xFF800000#32 = ⊥ := by simp [Ideal.ofBits, Ideal.ieee]
theorem ofBits_pinf : Ideal.ofBits .f32 0x7F800000#32 = ⊤ := by simp [Ideal.ofBits, Ideal.ieee]
theorem ofBits_ninf16 : Ideal.ofBits .bf16 0xFF80#16 = ⊥ := by simp [Ideal.ofBits, Ideal.ieee]
theorem ofBits_pinf16 : Ideal.ofBits .bf16 0x7F80#16 = ⊤ := by simp [Ideal.ofBits, Ideal.ieee]
theorem top_eq : top = ((127 : ℝ) : EReal) := by
  unfold top; simp [Ideal.ofBits, Ideal.ieee]; norm_num; rw [← EReal.coe_mul]; norm_num
theorem bot_eq : bot = ((-127 : ℝ) : EReal) := by
  unfold bot; simp [Ideal.ofBits, Ideal.ieee]; norm_num; rw [← EReal.coe_mul]; norm_num
theorem ofBits_640 : Ideal.ofBits .f32 0x44200000#32 = ((640 : ℝ) : EReal) := by
  simp [Ideal.ofBits, Ideal.ieee]; norm_num; rw [← EReal.coe_mul]; norm_num
theorem ofBits_sixteenth : Ideal.ofBits .f32 0x3D800000#32 = ((1/16 : ℝ) : EReal) := by
  simp [Ideal.ofBits, Ideal.ieee]; norm_num; rw [← EReal.coe_mul]; norm_num

/-- A fold of `max` from `-∞` is the supremum. -/
theorem fold_max {ι : Type*} (s : Finset ι) (f : ι → EReal) : s.fold max ⊥ f = s.sup f := rfl

end Cert.Attention
-- ==== Proof.Real.lean ====
/-
  The arithmetic on the extended reals that joins the two programs: clipping and rounding in either order, a scale
  applied by multiplication or division, the largest of absolute values by the two extremes, softmax in base two over
  the keys up to the block's end against softmax in base `e` over all keys.
-/
module

public import proofs.«01_k».proof.Proof.Spec

@[expose] public section
noncomputable section
namespace Cert.Attention
open Idealize.ShloMosaic

/-- Rounding stays below an integer bound. -/
theorem rhe_le {r : ℝ} {n : ℤ} (h : r ≤ n) : Ideal.roundHalfEven r ≤ n := by
  have h1 : ⌊r⌋ ≤ n := by exact_mod_cast (Int.floor_le r).trans h
  unfold Ideal.roundHalfEven
  simp only
  by_cases hc : r - ⌊r⌋ < 1/2
  · rw [if_pos hc]; exact h1
  · have h2 : ⌊r⌋ + 1 ≤ n := by
      have : (⌊r⌋ : ℝ) < n := by linarith
      exact_mod_cast this
    rw [if_neg hc]; split_ifs <;> omega

/-- Rounding stays above an integer bound. -/
theorem le_rhe {r : ℝ} {n : ℤ} (h : (n : ℝ) ≤ r) : n ≤ Ideal.roundHalfEven r := by
  have h1 : n ≤ ⌊r⌋ := Int.le_floor.mpr h
  unfold Ideal.roundHalfEven
  simp only
  split_ifs <;> omega

/-- Clipping then rounding is rounding then clipping. -/
theorem round_clip (y : EReal) : Ideal.liftRound Ideal.roundHalfEven (min top (max bot y)) = min top (max bot (Ideal.liftRound Ideal.roundHalfEven y)) := by
  have r127 : Ideal.roundHalfEven (127 : ℝ) = 127 := le_antisymm (rhe_le (by norm_num)) (le_rhe (by norm_num))
  have rm127 : Ideal.roundHalfEven (-127 : ℝ) = -127 := le_antisymm (rhe_le (by norm_num)) (le_rhe (by norm_num))
  rw [top_eq, bot_eq]
  induction y using EReal.rec with
  | bot =>
    rw [max_eq_left bot_le, show Ideal.liftRound Ideal.roundHalfEven ⊥ = ⊥ from rfl, max_eq_left bot_le,
      min_eq_right (by exact_mod_cast (by norm_num : (-127 : ℝ) ≤ 127)), Ideal.liftRound_coe, rm127]
    norm_num
  | top =>
    rw [max_eq_right le_top, show Ideal.liftRound Ideal.roundHalfEven ⊤ = ⊤ from rfl, max_eq_right le_top,
      min_eq_left le_top, Ideal.liftRound_coe, r127]
    norm_num
  | coe r =>
    rw [Ideal.liftRound_coe]
    rcases le_total r (-127) with h | h
    · have h2 : (Ideal.roundHalfEven r : ℝ) ≤ -127 := by exact_mod_cast rhe_le (n := -127) (by push_cast; exact h)
      rw [max_eq_left (by exact_mod_cast h), max_eq_left (by exact_mod_cast h2),
        min_eq_right (by exact_mod_cast (by norm_num : (-127 : ℝ) ≤ 127)), Ideal.liftRound_coe, rm127]
      norm_num
    · have h2 : (-127 : ℝ) ≤ (Ideal.roundHalfEven r : ℝ) := by exact_mod_cast le_rhe (n := -127) (by push_cast; exact h)
      rw [max_eq_right (by exact_mod_cast h), max_eq_right (by exact_mod_cast h2)]
      rcases le_total r 127 with h' | h'
      · have h3 : (Ideal.roundHalfEven r : ℝ) ≤ 127 := by exact_mod_cast rhe_le (n := 127) (by push_cast; exact h')
        rw [min_eq_right (by exact_mod_cast h'), min_eq_right (by exact_mod_cast h3), Ideal.liftRound_coe]
      · have h3 : (127 : ℝ) ≤ (Ideal.roundHalfEven r : ℝ) := by exact_mod_cast le_rhe (n := 127) (by push_cast; exact h')
        rw [min_eq_left (by exact_mod_cast h'), min_eq_left (by exact_mod_cast h3), Ideal.liftRound_coe, r127]
        norm_num

theorem ofBits_one : Ideal.ofBits .f32 0x3F800000#32 = 1 := by
  simp [Ideal.ofBits, Ideal.ieee]; norm_num; rw [← EReal.coe_mul]; norm_num
theorem ofBits_zero : Ideal.ofBits .f32 0x00000000#32 = 0 := by simp [Ideal.ofBits, Ideal.ieee]

/-- A scale is not zero. -/
theorem scl_ne (a : EReal) : scl a ≠ 0 := by
  unfold scl
  rw [ofBits_one, ofBits_zero, top_eq, Ideal.div_coe (by norm_num)]
  by_cases h : 0 < a
  · have e : Ideal.cmp .ogt a 0 = 1#1 := by simp [Ideal.cmp, h]
    rw [e]
    show a * ((1 / 127 : ℝ) : EReal) ≠ 0
    exact mul_ne_zero h.ne' (by exact_mod_cast (by norm_num : (1 / 127 : ℝ) ≠ 0))
  · have e : Ideal.cmp .ogt a 0 = 0#1 := by simp [Ideal.cmp, h]
    rw [e]
    exact one_ne_zero

/-- A code by multiplication with the scale's inverse, clipped before it is rounded. -/
theorem code_eq (v a : EReal) : Ideal.liftRound Ideal.roundHalfEven
    (min top (max bot (v * Ideal.div (Ideal.ofBits .f32 0x3F800000#32) (scl a)))) = code v (scl a) := by
  rw [round_clip, ofBits_one]
  unfold code
  have e : v * Ideal.div 1 (scl a) = Ideal.div v (scl a) := by
    unfold Ideal.div; rw [if_neg (scl_ne a), if_neg (scl_ne a), one_mul]
  rw [e]

/-- A code is a finite number. -/
theorem code_real (v s : EReal) : ∃ r : ℝ, code v s = r := by
  have h1 : code v s ≤ ((127 : ℝ) : EReal) := by unfold code; rw [top_eq]; exact min_le_left _ _
  have h2 : ((-127 : ℝ) : EReal) ≤ code v s := by
    unfold code; rw [top_eq, bot_eq]
    exact le_min (by exact_mod_cast (by norm_num : (-127 : ℝ) ≤ 127)) (le_max_left _ _)
  exact ⟨(code v s).toReal, (EReal.coe_toReal (ne_of_lt (lt_of_le_of_lt h1 (EReal.coe_lt_top _))) (ne_of_gt (lt_of_lt_of_le (EReal.bot_lt_coe _) h2))).symm⟩

/-- The largest absolute difference from `m` is at one of the extremes. -/
theorem hilo {n : Nat} [NeZero n] (f : Fin n → EReal) (m : EReal) :
    max (absE (Finset.univ.sup f - m)) (absE (Finset.univ.inf f - m)) = Finset.univ.sup fun r => absE (f r - m) := by
  have hne : (Finset.univ : Finset (Fin n)).Nonempty := ⟨0, Finset.mem_univ _⟩
  apply le_antisymm
  · obtain ⟨r, -, hr⟩ := Finset.exists_mem_eq_sup Finset.univ hne f
    obtain ⟨q, -, hq⟩ := Finset.exists_mem_eq_inf Finset.univ hne f
    rw [hr, hq]
    exact max_le (Finset.le_sup (f := fun r => absE (f r - m)) (Finset.mem_univ r)) (Finset.le_sup (f := fun r => absE (f r - m)) (Finset.mem_univ q))
  · refine Finset.sup_le fun r _ => ?_
    refine max_le ?_ ?_
    · exact (EReal.sub_le_sub (Finset.le_sup (Finset.mem_univ r)) le_rfl).trans ((le_max_left _ _).trans (le_max_left _ _))
    · exact (EReal.neg_le_neg_iff.mpr (EReal.sub_le_sub (Finset.inf_le (Finset.mem_univ r)) le_rfl)).trans ((le_max_right _ _).trans (le_max_right _ _))

/-- A supremum taken row by row. -/
theorem sup_grid {m n N : Nat} (hN : N = m * n) (f : Fin N → EReal) (h : ∀ (b : Fin n) (a : Fin m), a.val * n + b.val < N) :
    (Finset.univ.sup fun b : Fin n => Finset.univ.sup fun a : Fin m => f ⟨a.val * n + b.val, h b a⟩) = Finset.univ.sup f := by
  apply le_antisymm
  · exact Finset.sup_le fun b _ => Finset.sup_le fun a _ => Finset.le_sup (f := f) (Finset.mem_univ _)
  · refine Finset.sup_le fun j _ => ?_
    have hj : j.val < m * n := hN ▸ j.isLt
    have hn : 0 < n := by rcases Nat.eq_zero_or_pos n with h | h; · subst h; omega
                          · exact h
    have ea : j.val / n < m := Nat.div_lt_of_lt_mul (by rw [Nat.mul_comm]; exact hj)
    have e : j = ⟨(⟨j.val / n, ea⟩ : Fin m).val * n + (⟨j.val % n, Nat.mod_lt _ hn⟩ : Fin n).val, h _ _⟩ := Fin.ext (by
      show j.val = j.val / n * n + j.val % n
      rw [Nat.mul_comm]; exact (Nat.div_add_mod _ _).symm)
    exact (le_of_eq (congrArg f e)).trans ((Finset.le_sup (f := fun a : Fin m => f ⟨a.val * n + (⟨j.val % n, Nat.mod_lt _ hn⟩ : Fin n).val, h _ a⟩) (Finset.mem_univ _)).trans
      (Finset.le_sup (f := fun b : Fin n => Finset.univ.sup fun a : Fin m => f ⟨a.val * n + b.val, h b a⟩) (Finset.mem_univ (⟨j.val % n, Nat.mod_lt _ hn⟩ : Fin n))))

/-- An infimum taken row by row. -/
theorem inf_grid {m n N : Nat} (hN : N = m * n) (f : Fin N → EReal) (h : ∀ (b : Fin n) (a : Fin m), a.val * n + b.val < N) :
    (Finset.univ.inf fun b : Fin n => Finset.univ.inf fun a : Fin m => f ⟨a.val * n + b.val, h b a⟩) = Finset.univ.inf f := by
  apply le_antisymm
  · refine Finset.le_inf fun j _ => ?_
    have hj : j.val < m * n := hN ▸ j.isLt
    have hn : 0 < n := by rcases Nat.eq_zero_or_pos n with h | h; · subst h; omega
                          · exact h
    have ea : j.val / n < m := Nat.div_lt_of_lt_mul (by rw [Nat.mul_comm]; exact hj)
    have e : j = ⟨(⟨j.val / n, ea⟩ : Fin m).val * n + (⟨j.val % n, Nat.mod_lt _ hn⟩ : Fin n).val, h _ _⟩ := Fin.ext (by
      show j.val = j.val / n * n + j.val % n
      rw [Nat.mul_comm]; exact (Nat.div_add_mod _ _).symm)
    exact ((Finset.inf_le (f := fun b : Fin n => Finset.univ.inf fun a : Fin m => f ⟨a.val * n + b.val, h b a⟩) (Finset.mem_univ (⟨j.val % n, Nat.mod_lt _ hn⟩ : Fin n))).trans
      (Finset.inf_le (f := fun a : Fin m => f ⟨a.val * n + (⟨j.val % n, Nat.mod_lt _ hn⟩ : Fin n).val, h _ a⟩) (Finset.mem_univ (⟨j.val / n, ea⟩ : Fin m)))).trans (le_of_eq (congrArg f e).symm)
  · exact Finset.le_inf fun b _ => Finset.le_inf fun a _ => Finset.inf_le (f := f) (Finset.mem_univ _)

/-- A sum taken row by row. -/
theorem sum_grid {m n N : Nat} (hN : N = m * n) (f : Fin N → EReal) (h : ∀ (b : Fin n) (a : Fin m), a.val * n + b.val < N) :
    (∑ b : Fin n, ∑ a : Fin m, f ⟨a.val * n + b.val, h b a⟩) = ∑ s, f s := by
  subst hN
  rw [Finset.sum_comm, ← Finset.sum_product', Finset.univ_product_univ, ← (finProdFinEquiv (m := m) (n := n)).sum_comp]
  refine Finset.sum_congr rfl fun p _ => congrArg f (Fin.ext ?_)
  show p.1.val * n + p.2.val = p.2.val + n * p.1.val
  rw [Nat.mul_comm, Nat.add_comm]

end Cert.Attention
-- ==== Proof.Pure.lean ====
/-
  What the kernel's pure pieces compute over the reals, index by index, in the terms of `Spec`.
-/
module

public import proofs.«01_k».proof.Proof.Model
public import proofs.«01_k».proof.Proof.Real
public import Idealize.ShloMosaic.Lib.Pointwise.IndexVar
public import Idealize.ShloMosaic.Lib.MatmulPlain

@[expose] public section
noncomputable section
namespace Cert.KernelIdeal.Hand
open Idealize.ShloMosaic Idealize.ShloMosaic.TcCoe
open Cert.KernelIdeal.Gen Cert.Attention

theorem fold_min {ι : Type*} (s : Finset ι) (f : ι → EReal) : s.fold min ⊤ f = s.inf f := rfl

/-- The columns' largest keys. -/
theorem kHi_at (kb : FVec Ideal S64x256 .bf16) (d : Fin 256) : kHi kb (ix2 0 d) = Finset.univ.sup fun r : Fin 64 => kb (ix2 r d) := by
  unfold kHi; pointwise
  simp only [ofBits_ninf, ofBits_ninf16, fold_max]
  exact sup_grid (m := 4) (n := 16) rfl (fun r : Fin 64 => kb (ix2 r d)) _

/-- The columns' smallest keys. -/
theorem kLo_at (kb : FVec Ideal S64x256 .bf16) (d : Fin 256) : kLo kb (ix2 0 d) = Finset.univ.inf fun r : Fin 64 => kb (ix2 r d) := by
  unfold kLo; pointwise
  simp only [ofBits_pinf, ofBits_pinf16, fold_min]
  exact inf_grid (m := 4) (n := 16) rfl (fun r : Fin 64 => kb (ix2 r d)) _

/-- The largest of a row. -/
theorem laneMax_at (v : FVec Ideal S1x256 .f32) : laneMax v (ix2 0 0) = Finset.univ.sup fun d : Fin 256 => v (ix2 0 d) := by
  unfold laneMax; pointwise
  simp only [ofBits_ninf, fold_max]

/-- A scale. -/
theorem scaleOf_at (a : FVec Ideal S1x1 .f32) : scaleOf a (ix2 0 0) = scl (a (ix2 0 0)) := rfl

/-- The keys' mean. -/
theorem meanOf_at (kb : FVec Ideal S640x256 .bf16) (d : Fin 256) :
    meanOf kb (ix2 0 d) = Ideal.div (∑ s, kb (ix2 s d)) (Ideal.ofBits .f32 0x44200000#32) := by
  have e : meanOf kb (ix2 0 d) = (shapeCast S1x256 (multiReduction .add [0] S256 (multiReduction .add [0] S32x256
      (shapeCast S20x32x256 (extf .f32 kb bitsLt_bf16_f32) shapeCasts_S640x256_S20x32x256) 0x00000000#32 reduces_S20x32x256_S32x256 (.inl rfl) rfl)
      0x00000000#32 reduces_S32x256_S256 (.inl rfl) rfl) shapeCasts_S256_S1x256) (ix2 0 d) * ((1/640 : ℝ) : EReal) := rfl
  rw [e, ofBits_640, Ideal.div_coe (by norm_num)]; pointwise
  exact congrArg (· * _) (sum_grid (m := 20) (n := 32) rfl (fun s : Fin 640 => kb (ix2 s d)) _)

/-- A key block's scale. -/
theorem kScale_at (K : Fin 640 → Fin 256 → EReal) (n : Fin 10) (kb : FVec Ideal S64x256 .bf16) (mn : FVec Ideal S1x256 .f32)
    (hk : ∀ r d, kb (ix2 r d) = K (krow n r) d) (hm : ∀ d, mn (ix2 0 d) = mean K d) : kScale kb mn (ix2 0 0) = scl (kAmax K n) := by
  unfold kScale
  rw [scaleOf_at, laneMax_at]
  refine congrArg scl ?_
  unfold kAmax
  rw [Finset.sup_comm]
  refine Finset.sup_congr rfl fun d _ => ?_
  have e : (maximumf (absf (subf (kHi kb) mn)) (absf (subf (kLo kb) mn))) (ix2 0 d)
    = max (absE (kHi kb (ix2 0 d) - mn (ix2 0 d))) (absE (kLo kb (ix2 0 d) - mn (ix2 0 d))) := rfl
  rw [e, kHi_at, kLo_at, hm, hilo]
  simp only [hk]

/-- A clipped and rounded product of a value and a scale's inverse. -/
theorem round_at {s : Shape} (v w : FVec Ideal s .f32) (j : s.Idx) :
    (roundeven (minimumf (broadcast s (Scalar.ofBits .f32 0x42FE0000#32)) (maximumf (broadcast s (Scalar.ofBits .f32 0xC2FE0000#32)) (mulf v w)))) j
      = Ideal.liftRound Ideal.roundHalfEven (min top (max bot (v j * w j))) := rfl

/-- A scale's inverse. -/
theorem inv_at (a : FVec Ideal S1x1 .f32) (j : S1x1.Idx) :
    (divf (broadcast S1x1 (Scalar.ofBits .f32 0x3F800000#32)) a) j = Ideal.div (Ideal.ofBits .f32 0x3F800000#32) (a j) := rfl

/-- A key block's codes. -/
theorem kRound_at (K : Fin 640 → Fin 256 → EReal) (n : Fin 10) (kb : FVec Ideal S64x256 .bf16) (mn : FVec Ideal S1x256 .f32)
    (hk : ∀ r d, kb (ix2 r d) = K (krow n r) d) (hm : ∀ d, mn (ix2 0 d) = mean K d) (r : Fin 64) (d : Fin 256) :
    kRound kb mn (ix2 r d) = kCode K (krow n r) d := by
  unfold kRound
  rw [round_at]
  generalize hs : kScale kb mn = sc
  have h1 : (subf (extf .f32 kb bitsLt_bf16_f32) (broadcastTo S64x256 mn broadcasts_S1x256_S64x256)) (ix2 r d) = kb (ix2 r d) - mn (ix2 0 d) := by
    pointwise
  have h2 : (broadcastTo S64x256 (divf (broadcast S1x1 (Scalar.ofBits .f32 0x3F800000#32)) sc) broadcasts_S1x1_S64x256) (ix2 r d)
      = (divf (broadcast S1x1 (Scalar.ofBits .f32 0x3F800000#32)) sc) (ix2 0 0) := by
    generalize (divf (broadcast S1x1 (Scalar.ofBits .f32 0x3F800000#32)) sc) = z
    pointwise
  rw [h1, h2, inv_at, ← hs, kScale_at K n kb mn hk hm, hk, hm, code_eq]
  unfold kCode
  rw [show kblk (krow n r) = n from Fin.ext (by show (n.val * 64 + r.val) / 64 = n.val; omega)]

/-- A query block's scale. -/
theorem qScale_at (x : FVec Ideal S128x256 .bf16) : qScale x (ix2 0 0) = scl (qAmax fun r d => x (ix2 r d)) := by
  unfold qScale
  rw [scaleOf_at, laneMax_at]
  refine congrArg scl ?_
  unfold qAmax
  rw [Finset.sup_comm]
  refine Finset.sup_congr rfl fun d _ => ?_
  pointwise
  simp only [ofBits_ninf, ofBits_ninf16, fold_max]
  exact sup_grid (m := 8) (n := 16) rfl (fun r : Fin 128 => absE (x (ix2 r d))) _

/-- A query block's codes. -/
theorem qRound_at (x : FVec Ideal S128x256 .bf16) (r : Fin 128) (d : Fin 256) : qRound x (ix2 r d) = qCode (fun r d => x (ix2 r d)) r d := by
  unfold qRound
  rw [round_at]
  generalize hs : qScale x = sc
  have h2 : (broadcastTo S128x256 (divf (broadcast S1x1 (Scalar.ofBits .f32 0x3F800000#32)) sc) broadcasts_S1x1_S128x256) (ix2 r d)
      = (divf (broadcast S1x1 (Scalar.ofBits .f32 0x3F800000#32)) sc) (ix2 0 0) := by
    generalize (divf (broadcast S1x1 (Scalar.ofBits .f32 0x3F800000#32)) sc) = z
    pointwise
  rw [h2, inv_at, ← hs, qScale_at x, code_eq]
  rfl

attribute [local irreducible] qRound

/-- The products of codes. -/
theorem scores_at (i : Nat) (kc : FVec Ideal ⟨2, ![(i + 1) * 128, 256]⟩ .bf16) (x0 x1 : FVec Ideal S128x256 .bf16)
    (s : Fin ((i + 1) * 128)) (c : Fin 256) : scores i kc x0 x1 (ix2 s c)
      = ∑ d : Fin 256, kc (ix2 s d) * (if h : c.val < 128 then qRound x0 (ix2 ⟨c.val, h⟩ d) else qRound x1 (ix2 ⟨c.val - 128, by omega⟩ d)) := by
  unfold scores; pointwise

/-- Rows regrouped by 32. -/
theorem castL_at {n : Nat} (h : Shape.ShapeCasts ⟨2, ![n * 128, 128]⟩ ⟨3, ![n * 4, 32, 128]⟩) (s : FVec Ideal ⟨2, ![n * 128, 128]⟩ .f32)
    (b : Fin (n * 4)) (a : Fin 32) (r : Fin 128) : shapeCast ⟨3, ![n * 4, 32, 128]⟩ s h (ix3 b a r) = s (ix2 ⟨b.val * 32 + a.val, by omega⟩ r) := by
  apply shapeCast_apply
  rw [Shape.rowMajor_val_two, Shape.rowMajor_val_three]
  show (b.val * 32 + a.val) * 128 + r.val = (b.val * 32 + a.val) * 128 + r.val
  rfl

/-- The largest over a leading axis. -/
theorem maxL_at {n : Nat} (h : Shape.Reduces ⟨3, ![n * 4, 32, 128]⟩ [0] S32x128) (z : FVec Ideal ⟨3, ![n * 4, 32, 128]⟩ .f32) (hk ha) (a : Fin 32) (r : Fin 128) :
    multiReduction .maximumf [0] S32x128 z 0xFF800000#32 h hk ha (ix2 a r) = Finset.univ.sup fun b : Fin (n * 4) => z (ix3 b a r) := by
  pointwise
  simp only [ofBits_ninf, fold_max]

/-- The sum over a leading axis. -/
theorem sumL_at {n : Nat} (h : Shape.Reduces ⟨3, ![n * 4, 32, 128]⟩ [0] S32x128) (z : FVec Ideal ⟨3, ![n * 4, 32, 128]⟩ .f32) (hk ha) (a : Fin 32) (r : Fin 128) :
    multiReduction .add [0] S32x128 z 0x00000000#32 h hk ha (ix2 a r) = ∑ b : Fin (n * 4), z (ix3 b a r) := by
  pointwise

/-- The columns' largest. -/
theorem rowsMax_at (i : Nat) (s : FVec Ideal ⟨2, ![(i + 1) * 128, 128]⟩ .f32) (h h') (r : Fin 128) :
    rowsMax i s h h' (ix2 0 r) = Finset.univ.sup fun κ => s (ix2 κ r) := by
  unfold rowsMax
  generalize i + 1 = n at *
  generalize hz : multiReduction .maximumf [0] S32x128 (shapeCast ⟨3, ![n * 4, 32, 128]⟩ s h) 0xFF800000#32 h' (.inl rfl) rfl = z
  pointwise
  rw [← hz]
  simp only [ofBits_ninf, fold_max]
  refine (Finset.sup_congr rfl fun x _ => (maxL_at h' _ _ _ x r).trans (Finset.sup_congr rfl fun b _ => castL_at h s b x r)).trans ?_
  exact sup_grid (m := n * 4) (n := 32) (by omega) (fun κ : Fin (n * 128) => s (ix2 κ r)) _

/-- The columns' sums. -/
theorem rowsSum_at (i : Nat) (s : FVec Ideal ⟨2, ![(i + 1) * 128, 128]⟩ .f32) (h h') (r : Fin 128) :
    rowsSum i s h h' (ix2 0 r) = ∑ κ, s (ix2 κ r) := by
  unfold rowsSum
  generalize i + 1 = n at *
  generalize hz : multiReduction .add [0] S32x128 (shapeCast ⟨3, ![n * 4, 32, 128]⟩ s h) 0x00000000#32 h' (.inl rfl) rfl = z
  pointwise
  rw [← hz]
  refine (Finset.sum_congr rfl fun x _ => (sumL_at h' _ _ _ x r).trans (Finset.sum_congr rfl fun b _ => castL_at h s b x r)).trans ?_
  exact sum_grid (m := n * 4) (n := 32) (by omega) (fun κ : Fin (n * 128) => s (ix2 κ r)) _

attribute [local irreducible] rowsMax rowsSum

/-- The weights. -/
theorem probOf_at (i : Nat) (s : FVec Ideal ⟨2, ![(i + 1) * 128, 128]⟩ .f32) (κ : Fin ((i + 1) * 128)) (r : Fin 128) :
    probOf i s (ix2 κ r) = Ideal.exp2 (s (ix2 κ r) - Finset.univ.sup fun κ' => s (ix2 κ' r)) := by
  unfold probOf
  rw [← rowsMax_at i s (castsL i) (reducesL i) r]
  generalize rowsMax i s (castsL i) (reducesL i) = z
  generalize broadcastsL i = hb
  generalize i + 1 = n at *
  pointwise
  rfl

/-- Two matrices side by side. -/
theorem cat_at {n : Nat} (h : Shape.Concatenates [⟨2, ![n, 128]⟩, ⟨2, ![n, 128]⟩] ⟨2, ![n, 256]⟩ 1) (a b : FVec Ideal ⟨2, ![n, 128]⟩ .bf16) (κ : Fin n) (c : Fin 256) :
    concatenate ⟨2, ![n, 256]⟩ 1 [⟨⟨2, ![n, 128]⟩, a⟩, ⟨⟨2, ![n, 128]⟩, b⟩] h (ix2 κ c)
      = if h : c.val < 128 then a (ix2 κ ⟨c.val, h⟩) else b (ix2 κ ⟨c.val - 128, by omega⟩) := by
  pointwise

/-- The pair's output: head 0 in the first 128 rows, head 1 in the others. -/
theorem outOf_at (i : Nat) (vt : FVec Ideal ⟨2, ![256, (i + 1) * 128]⟩ .bf16) (p0 p1 : FVec Ideal ⟨2, ![(i + 1) * 128, 128]⟩ .f32)
    (c : Fin 256) (d : Fin 256) : outOf i vt p0 p1 (ix2 c d)
      = Ideal.div (∑ κ, vt (ix2 d κ) * (if h : c.val < 128 then p0 (ix2 κ ⟨c.val, h⟩) else p1 (ix2 κ ⟨c.val - 128, by omega⟩)))
        (if h : c.val < 128 then ∑ κ, p0 (ix2 κ ⟨c.val, h⟩) else ∑ κ, p1 (ix2 κ ⟨c.val - 128, by omega⟩)) := by
  unfold outOf; pointwise
  refine congrArg₂ Ideal.div ?_ ?_
  · refine (Ideal.matmul_plain_apply none _ _ _ _ _).trans ?_
    refine (congrArg₂ (· + ·) (show _ = (0 : EReal) from ofBits_zero) (Finset.sum_congr rfl fun κ _ => congrArg (vt (ix2 d κ) * ·) (cat_at (concatProbs i) _ _ κ c))).trans ?_
    rw [zero_add]
    rfl
  · exact dite_congr rfl (fun h => rowsSum_at ..) (fun h => rowsSum_at ..)

end Cert.KernelIdeal.Hand
-- ==== Proof.Softmax.lean ====
/-
  Softmax in base two over the keys up to the block's end is softmax in base `e` over all keys.
-/
module

public import proofs.«01_k».proof.Proof.Real

@[expose] public section
noncomputable section
namespace Cert.Attention
open Idealize.ShloMosaic

/-- The binary logarithm of `e`. -/
def lam : EReal := (((Real.log 2)⁻¹ : ℝ) : EReal)

theorem lam_pos : (0 : ℝ) < (Real.log 2)⁻¹ := inv_pos.mpr (Real.log_pos (by norm_num))

/-- The exponential by the power of two. -/
theorem exp2_lam (y : EReal) : Ideal.exp2 (y * lam) = Ideal.exp y := by
  unfold lam
  induction y using EReal.rec with
  | bot => rw [EReal.bot_mul_coe_of_pos lam_pos]; rfl
  | top => rw [EReal.top_mul_coe_of_pos lam_pos]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    have : Real.log 2 ≠ 0 := (Real.log_pos (by norm_num)).ne'
    field_simp

/-- The factor taken out of a difference. -/
theorem sub_lam (a b : EReal) : a * lam - b * lam = (a - b) * lam := by
  unfold lam
  induction a using EReal.rec with
  | bot => induction b using EReal.rec <;> simp [EReal.bot_mul_coe_of_pos lam_pos, EReal.top_mul_coe_of_pos lam_pos]
  | top =>
    induction b using EReal.rec with
    | bot => simp [EReal.bot_mul_coe_of_pos lam_pos, EReal.top_mul_coe_of_pos lam_pos]
    | top => simp [EReal.bot_mul_coe_of_pos lam_pos, EReal.top_mul_coe_of_pos lam_pos]
    | coe r => rw [EReal.top_sub_coe, EReal.top_mul_coe_of_pos lam_pos, ← EReal.coe_mul, EReal.top_sub_coe]
  | coe q =>
    induction b using EReal.rec with
    | bot => rw [EReal.coe_sub_bot, EReal.top_mul_coe_of_pos lam_pos, EReal.bot_mul_coe_of_pos lam_pos, ← EReal.coe_mul, EReal.coe_sub_bot]
    | top => rw [EReal.top_mul_coe_of_pos lam_pos, sub_eq_add_neg, sub_eq_add_neg, EReal.neg_top, EReal.add_bot, EReal.add_bot, EReal.bot_mul_coe_of_pos lam_pos]
    | coe r => rw [← EReal.coe_mul, ← EReal.coe_mul, ← EReal.coe_sub, ← EReal.coe_sub, ← EReal.coe_mul]; congr 1; ring

/-- The factor taken out of a supremum. -/
theorem sup_lam {ι : Type*} (s : Finset ι) (f : ι → EReal) : (s.sup fun j => f j * lam) = s.sup f * lam := by
  refine (Finset.comp_sup_eq_sup_comp_of_is_total (fun y : EReal => y * lam) ?_ ?_).symm
  · intro a b h
    exact mul_le_mul_of_nonneg_right h (by unfold lam; exact_mod_cast lam_pos.le)
  · unfold lam; exact EReal.bot_mul_coe_of_pos lam_pos

/-- A supremum over a prefix where nothing follows. -/
theorem sup_prefix {L N : Nat} (h : L ≤ N) (f : Fin N → EReal) (hf : ∀ s : Fin N, L ≤ s.val → f s = ⊥) :
    (Finset.univ.sup fun j : Fin L => f ⟨j.val, by omega⟩) = Finset.univ.sup f := by
  apply le_antisymm
  · exact Finset.sup_le fun j _ => Finset.le_sup (f := f) (Finset.mem_univ _)
  · refine Finset.sup_le fun s _ => ?_
    by_cases hs : s.val < L
    · exact Finset.le_sup (f := fun j : Fin L => f ⟨j.val, by omega⟩) (Finset.mem_univ (⟨s.val, hs⟩ : Fin L))
    · rw [hf s (by omega)]; exact bot_le

/-- A sum over a prefix where nothing follows. -/
theorem sum_prefix {L N : Nat} (h : L ≤ N) (f : Fin N → EReal) (hf : ∀ s : Fin N, L ≤ s.val → f s = 0) :
    (∑ j : Fin L, f ⟨j.val, by omega⟩) = ∑ s, f s := by
  obtain ⟨M, rfl⟩ := Nat.exists_eq_add_of_le h
  rw [Fin.sum_univ_add]
  rw [Finset.sum_eq_zero (s := Finset.univ) (f := fun j : Fin M => f (Fin.natAdd L j)) (fun j _ => hf _ (by simp)), add_zero]
  rfl

/-- A weight from the scores in base two. -/
theorem weight_lam (i : Nat) (Q : Fin 128 → Fin 256 → EReal) (K : Fin 640 → Fin 256 → EReal) (r : Fin 128) {L : Nat} (hL : L = (i + 1) * 128) (hi : L ≤ 640) (j : Fin L) :
    Ideal.exp2 (masked i Q K r ⟨j.val, by omega⟩ * lam - Finset.univ.sup fun j : Fin L => masked i Q K r ⟨j.val, by omega⟩ * lam)
      = weight i Q K r ⟨j.val, by omega⟩ := by
  rw [sup_lam, sub_lam, exp2_lam, sup_prefix hi (masked i Q K r)]
  · rfl
  · intro s hs
    unfold masked
    rw [if_neg (by have := r.isLt; omega)]

/-- Keys after the block weigh nothing. -/
theorem weight_after (i : Nat) (Q : Fin 128 → Fin 256 → EReal) (K : Fin 640 → Fin 256 → EReal) (r : Fin 128) (s : Fin 640) (hs : (i + 1) * 128 ≤ s.val) :
    weight i Q K r s = 0 := by
  unfold weight
  have e : masked i Q K r s = ⊥ := by unfold masked; rw [if_neg (by have := r.isLt; omega)]
  rw [e, EReal.bot_sub]
  rfl

/-- Attention from the scores in base two over the prefix. -/
theorem attn_prefix (i : Nat) (Q : Fin 128 → Fin 256 → EReal) (K V : Fin 640 → Fin 256 → EReal) (r : Fin 128) (d : Fin 256) {L : Nat}
    (hL : L = (i + 1) * 128) (hi : L ≤ 640) (m : Fin L → EReal) (hm : ∀ j : Fin L, m j = masked i Q K r ⟨j.val, by omega⟩ * lam) :
    Ideal.div (∑ j : Fin L, V ⟨j.val, by omega⟩ d * Ideal.exp2 (m j - Finset.univ.sup m)) (∑ j : Fin L, Ideal.exp2 (m j - Finset.univ.sup m))
      = attn i Q K V r d := by
  obtain rfl : m = fun j => masked i Q K r ⟨j.val, by omega⟩ * lam := funext hm
  simp only [weight_lam i Q K r hL hi]
  unfold attn
  congr 1
  · rw [← sum_prefix hi (fun s => weight i Q K r s * V s d) (fun s hs => by rw [weight_after i Q K r s (by omega), zero_mul])]
    exact Finset.sum_congr rfl fun j _ => mul_comm _ _
  · exact sum_prefix hi (weight i Q K r) (fun s hs => weight_after i Q K r s (by omega))

/-- A score in base two as the kernel multiplies it. -/
theorem score_lam (raw ks qs : EReal) : raw * (ks * (qs * (((Real.log 2)⁻¹ * (1 / 16) : ℝ) : EReal))) = raw * qs * ks * Ideal.ofBits .f32 0x3D800000#32 * lam := by
  unfold lam
  rw [ofBits_sixteenth, EReal.coe_mul]
  ac_rfl

end Cert.Attention
-- ==== Proof.State.lean ====
/-
  What the buffers hold while a block is worked on: the invariant, its parts, and what a load or a store of each buffer
  means for it.
-/
module

public import proofs.«01_k».proof.Proof.Sem
public import proofs.«01_k».proof.Proof.Pure
public import proofs.«01_k».proof.Proof.Softmax

@[expose] public section
noncomputable section
namespace Cert.KernelIdeal.Hand
open Idealize.ShloMosaic Idealize.ShloMosaic.TcCoe
open Cert.KernelIdeal.Gen Cert.Attention

/-- Column `d` of key head `h`. -/
def c8 (h : Fin 8) (d : Fin 256) : Fin 2048 := ⟨h.val * 256 + d.val, by omega⟩

/-- Column `d` of query head `h`. -/
def c16 (h : Fin 16) (d : Fin 256) : Fin 4096 := ⟨h.val * 256 + d.val, by omega⟩

/-- The key head of a query head. -/
def kvOf (h : Fin 16) : Fin 8 := ⟨h.val / 2, by omega⟩

/-- The key in row `r` of 128-block `b`. -/
def vrow (b : Fin 5) (r : Fin 128) : Fin 640 := ⟨b.val * 128 + r.val, by omega⟩

/-- The inputs at a grid point: the block's number, the three windows, and the heads' matrices in them. -/
structure Env where
  i : Fin 5
  x0 : S1x128x4096.Idx → EReal
  k0 : S1x640x2048.Idx → EReal
  v0 : S1x128x2048.Idx → EReal
  X : Fin 16 → Fin 128 → Fin 256 → EReal
  K : Fin 8 → Fin 640 → Fin 256 → EReal
  V : Fin 8 → Fin 640 → Fin 256 → EReal
  hx : ∀ h r d, x0 (ix3 0 r (c16 h d)) = X h r d
  hk : ∀ h s d, k0 (ix3 0 s (c8 h d)) = K h s d
  hv : ∀ h r d, v0 (ix3 0 r (c8 h d)) = V h (vrow i r) d

/-- What is known of the scratch and the result. -/
structure Done where
  mean : Fin 8 → Prop
  code : Fin 8 → Fin 10 → Prop
  scale : Fin 8 → Fin 10 → Prop
  vt : Fin 8 → Fin 5 → Prop
  out : Fin 16 → Prop
  mask : Prop

/-- The invariant. -/
structure J (E : Env) (D : Done) (σ : St Ideal) : Prop where
  x : σ .x = E.x0
  k : σ .k = E.k0
  v : σ .v = E.v0
  mean : ∀ h, D.mean h → ∀ d, σ .mean (ix2 0 (c8 h d)) = Attention.mean (E.K h) d
  code : ∀ h n, D.code h n → ∀ r d, σ .kcode (ix2 (krow n r) (c8 h d)) = kCode (E.K h) (krow n r) d
  scale : ∀ h n, D.scale h n → ∀ l, σ .kscale (ix2 ⟨h.val * 10 + n.val, by omega⟩ l) = scl (kAmax (E.K h) n)
  vt : ∀ h b, D.vt h b → ∀ d r, σ .vt (ix2 (c8 h d) (vrow b r)) = E.V h (vrow b r) d
  out : ∀ h, D.out h → ∀ r d, σ .out (ix3 0 r (c16 h d)) = attn E.i.val (E.X h) (E.K (kvOf h)) (E.V (kvOf h)) r d
  mask : D.mask → ∀ r q, σ .mask (ix2 r q) = if r ≤ q then (0 : EReal) else ⊥

/-- More is known than needed. -/
theorem J.mono {E : Env} {D D' : Done} {σ : St Ideal} (J0 : J E D σ) (h1 : ∀ h, D'.mean h → D.mean h) (h2 : ∀ h n, D'.code h n → D.code h n)
    (h3 : ∀ h n, D'.scale h n → D.scale h n) (h4 : ∀ h n, D'.vt h n → D.vt h n) (h5 : ∀ h, D'.out h → D.out h) (h6 : D'.mask → D.mask) : J E D' σ :=
  ⟨J0.x, J0.k, J0.v, fun h a => J0.mean h (h1 h a), fun h n a => J0.code h n (h2 h n a), fun h n a => J0.scale h n (h3 h n a),
    fun h n a => J0.vt h n (h4 h n a), fun h a => J0.out h (h5 h a), fun a => J0.mask (h6 a)⟩

/-- A buffer the invariant does not speak of. -/
def B.free : B → Bool
  | .qc | .qs | .kc | .ks | .qc32 | .kc32 => true
  | _ => false

/-- A store there keeps it. -/
theorem J.other {E : Env} {D : Done} {σ : St Ideal} (J0 : J E D σ) (b : B) (hb : b.free = true) (X : b.sh.Idx → Elt Ideal b.el) :
    J E D (Act.put σ b X) := by
  have ne : ∀ b', b'.free = false → Act.put σ b X b' = σ b' := fun b' h => put_ne σ b b' X (by rintro rfl; rw [hb] at h; exact Bool.noConfusion h)
  refine ⟨(ne _ rfl).trans J0.x, (ne _ rfl).trans J0.k, (ne _ rfl).trans J0.v, ?_, ?_, ?_, ?_, ?_, ?_⟩
  · rw [ne .mean rfl]; exact J0.mean
  · rw [ne .kcode rfl]; exact J0.code
  · rw [ne .kscale rfl]; exact J0.scale
  · rw [ne .vt rfl]; exact J0.vt
  · rw [ne .out rfl]; exact J0.out
  · rw [ne .mask rfl]; exact J0.mask

/-- One more head's mean. -/
theorem J.setMean {E : Env} {D : Done} {σ : St Ideal} (J0 : J E D σ) (h : Fin 8) (f : S1x2048.Idx → EReal)
    (hin : ∀ d, f (ix2 0 (c8 h d)) = Attention.mean (E.K h) d)
    (hout : ∀ u : Fin 2048, (u.val < h.val * 256 ∨ h.val * 256 + 256 ≤ u.val) → f (ix2 0 u) = σ .mean (ix2 0 u)) :
    J E { D with mean := fun h' => D.mean h' ∨ h' = h } (Act.put σ .mean f) := by
  have e : Act.put σ .mean f .mean = f := put_self ..
  refine ⟨J0.x, J0.k, J0.v, ?_, J0.code, J0.scale, J0.vt, J0.out, J0.mask⟩
  rw [e]
  intro h' hh d
  by_cases c : h' = h
  · subst c; exact hin d
  · rw [hout (c8 h' d) (by have : h'.val ≠ h.val := fun e => c (Fin.ext e); show h'.val * 256 + d.val < _ ∨ _ ≤ h'.val * 256 + d.val; omega)]
    exact J0.mean h' (hh.resolve_right c) d

/-- One more block's codes. -/
theorem J.setCode {E : Env} {D : Done} {σ : St Ideal} (J0 : J E D σ) (h : Fin 8) (n : Fin 10) (f : S640x2048.Idx → EReal)
    (hin : ∀ r d, f (ix2 (krow n r) (c8 h d)) = kCode (E.K h) (krow n r) d)
    (hout : ∀ (s : Fin 640) (u : Fin 2048), (s.val < n.val * 64 ∨ n.val * 64 + 64 ≤ s.val ∨ u.val < h.val * 256 ∨ h.val * 256 + 256 ≤ u.val) → f (ix2 s u) = σ .kcode (ix2 s u)) :
    J E { D with code := fun h' n' => D.code h' n' ∨ (h' = h ∧ n' = n) } (Act.put σ .kcode f) := by
  have e : Act.put σ .kcode f .kcode = f := put_self ..
  refine ⟨J0.x, J0.k, J0.v, J0.mean, ?_, J0.scale, J0.vt, J0.out, J0.mask⟩
  rw [e]
  intro h' n' hh r d
  by_cases c : h' = h ∧ n' = n
  · obtain ⟨rfl, rfl⟩ := c; exact hin r d
  · rw [hout (krow n' r) (c8 h' d) (by
      have : h'.val ≠ h.val ∨ n'.val ≠ n.val := by
        by_contra hc; push Not at hc; exact c ⟨Fin.ext hc.1, Fin.ext hc.2⟩
      show n'.val * 64 + r.val < _ ∨ _ ≤ n'.val * 64 + r.val ∨ h'.val * 256 + d.val < _ ∨ _ ≤ h'.val * 256 + d.val
      omega)]
    exact J0.code h' n' (hh.resolve_right c) r d

/-- One more block's scale. -/
theorem J.setScale {E : Env} {D : Done} {σ : St Ideal} (J0 : J E D σ) (h : Fin 8) (n : Fin 10) (f : S80x128.Idx → EReal)
    (hin : ∀ l, f (ix2 ⟨h.val * 10 + n.val, by omega⟩ l) = scl (kAmax (E.K h) n))
    (hout : ∀ (s : Fin 80) (u : Fin 128), s.val ≠ h.val * 10 + n.val → f (ix2 s u) = σ .kscale (ix2 s u)) :
    J E { D with scale := fun h' n' => D.scale h' n' ∨ (h' = h ∧ n' = n) } (Act.put σ .kscale f) := by
  have e : Act.put σ .kscale f .kscale = f := put_self ..
  refine ⟨J0.x, J0.k, J0.v, J0.mean, J0.code, ?_, J0.vt, J0.out, J0.mask⟩
  rw [e]
  intro h' n' hh l
  by_cases c : h' = h ∧ n' = n
  · obtain ⟨rfl, rfl⟩ := c; exact hin l
  · rw [hout ⟨h'.val * 10 + n'.val, by omega⟩ l (by
      have : h'.val ≠ h.val ∨ n'.val ≠ n.val := by
        by_contra hc; push Not at hc; exact c ⟨Fin.ext hc.1, Fin.ext hc.2⟩
      show h'.val * 10 + n'.val ≠ _
      omega)]
    exact J0.scale h' n' (hh.resolve_right c) l

/-- One more head's values. -/
theorem J.setVt {E : Env} {D : Done} {σ : St Ideal} (J0 : J E D σ) (h : Fin 8) (b : Fin 5) (f : S2048x640.Idx → EReal)
    (hin : ∀ d r, f (ix2 (c8 h d) (vrow b r)) = E.V h (vrow b r) d)
    (hout : ∀ (u : Fin 2048) (s : Fin 640), (u.val < h.val * 256 ∨ h.val * 256 + 256 ≤ u.val ∨ s.val < b.val * 128 ∨ b.val * 128 + 128 ≤ s.val) → f (ix2 u s) = σ .vt (ix2 u s)) :
    J E { D with vt := fun h' b' => D.vt h' b' ∨ (h' = h ∧ b' = b) } (Act.put σ .vt f) := by
  have e : Act.put σ .vt f .vt = f := put_self ..
  refine ⟨J0.x, J0.k, J0.v, J0.mean, J0.code, J0.scale, ?_, J0.out, J0.mask⟩
  rw [e]
  intro h' n' hh d r
  by_cases c : h' = h ∧ n' = b
  · obtain ⟨rfl, rfl⟩ := c; exact hin d r
  · rw [hout (c8 h' d) (vrow n' r) (by
      have : h'.val ≠ h.val ∨ n'.val ≠ b.val := by
        by_contra hc; push Not at hc; exact c ⟨Fin.ext hc.1, Fin.ext hc.2⟩
      show h'.val * 256 + d.val < _ ∨ _ ≤ h'.val * 256 + d.val ∨ n'.val * 128 + r.val < _ ∨ _ ≤ n'.val * 128 + r.val
      omega)]
    exact J0.vt h' n' (hh.resolve_right c) d r

/-- One more head's attention. -/
theorem J.setOut {E : Env} {D : Done} {σ : St Ideal} (J0 : J E D σ) (h : Fin 16) (f : S1x128x4096.Idx → EReal)
    (hin : ∀ r d, f (ix3 0 r (c16 h d)) = attn E.i.val (E.X h) (E.K (kvOf h)) (E.V (kvOf h)) r d)
    (hout : ∀ (r : Fin 128) (u : Fin 4096), (u.val < h.val * 256 ∨ h.val * 256 + 256 ≤ u.val) → f (ix3 0 r u) = σ .out (ix3 0 r u)) :
    J E { D with out := fun h' => D.out h' ∨ h' = h } (Act.put σ .out f) := by
  have e : Act.put σ .out f .out = f := put_self ..
  refine ⟨J0.x, J0.k, J0.v, J0.mean, J0.code, J0.scale, J0.vt, ?_, J0.mask⟩
  rw [e]
  intro h' hh r d
  by_cases c : h' = h
  · subst c; exact hin r d
  · rw [hout r (c16 h' d) (by have : h'.val ≠ h.val := fun e => c (Fin.ext e); show h'.val * 256 + d.val < _ ∨ _ ≤ h'.val * 256 + d.val; omega)]
    exact J0.out h' (hh.resolve_right c) r d

/-- The mask. -/
theorem J.setMask {E : Env} {D : Done} {σ : St Ideal} (J0 : J E D σ) (f : S128x128.Idx → EReal) (hf : ∀ r q, f (ix2 r q) = if r ≤ q then (0 : EReal) else ⊥) :
    J E { D with mask := True } (Act.put σ .mask f) := by
  have e : Act.put σ .mask f .mask = f := put_self ..
  refine ⟨J0.x, J0.k, J0.v, J0.mean, J0.code, J0.scale, J0.vt, J0.out, ?_⟩
  rw [e]
  exact fun _ => hf

/-! ## Reshapes -/

/-- A leading axis of one dropped. -/
theorem drop_at {m n : Nat} {α : Type} (h : Shape.ShapeCasts ⟨3, ![1, m, n]⟩ ⟨2, ![m, n]⟩) (z : (⟨3, ![1, m, n]⟩ : Shape).Idx → α) (a : Fin m) (b : Fin n) :
    shapeCast ⟨2, ![m, n]⟩ z h (ix2 a b) = z (ix3 0 a b) := by
  apply shapeCast_apply
  rw [Shape.rowMajor_val_two, Shape.rowMajor_val_three]
  show (0 * m + a.val) * n + b.val = a.val * n + b.val
  rw [Nat.zero_mul, Nat.zero_add]

/-- A leading axis of one added. -/
theorem add_at {m n : Nat} {α : Type} (h : Shape.ShapeCasts ⟨2, ![m, n]⟩ ⟨3, ![1, m, n]⟩) (z : (⟨2, ![m, n]⟩ : Shape).Idx → α) (a : Fin m) (b : Fin n) :
    shapeCast ⟨3, ![1, m, n]⟩ z h (ix3 0 a b) = z (ix2 a b) := by
  apply shapeCast_apply
  rw [Shape.rowMajor_val_two, Shape.rowMajor_val_three]
  show a.val * n + b.val = (0 * m + a.val) * n + b.val
  rw [Nat.zero_mul, Nat.zero_add]

end Cert.KernelIdeal.Hand
-- ==== Proof.Units.lean ====
/-
  What each unit of the body adds to the invariant: a head's mean, a block of keys, a block of values.
-/
module

public import proofs.«01_k».proof.Proof.State

@[expose] public section
noncomputable section
namespace Cert.KernelIdeal.Hand
open Idealize.ShloMosaic Idealize.ShloMosaic.TcCoe
open Cert.KernelIdeal.Gen Cert.Attention

variable {R : Refs} (hR : ∀ b, (R b).IsWhole)

attribute [local irreducible] meanOf kRound kScale qRound qScale

/-- The mask made. -/
theorem maskStep_meets (E : Env) (D : Done) : Meets (maskStep (R := R)) (J E D) (fun _ => J E { D with mask := True }) := by
  refine Meets.assign fun σ J0 => J0.setMask _ fun r q => ?_
  refine (overlay2_in _ _ _ r q r q (by omega) (by omega)).trans ?_
  rw [shapeCast_id]
  have e : (select (cmpi .sle (iota .tc S128x128 32 [0] iota_S128x128_d0_w32) (iota .tc S128x128 32 [1] iota_S128x128_d1_w32))
      (broadcast S128x128 (Scalar.ofBits (F := Ideal) .f32 0x00000000#32)) (broadcast S128x128 (Scalar.ofBits (F := Ideal) .f32 0xFF800000#32))) (ix2 r q)
      = Scalar.select (IntOp.cmpi .sle (BitVec.ofNat 32 r.val) (BitVec.ofNat 32 q.val)) (Ideal.ofBits .f32 0x00000000#32) (Ideal.ofBits .f32 0xFF800000#32) := by
    pointwise
  refine e.trans ?_
  rw [ofBits_zero, ofBits_ninf]
  have h : (BitVec.ofNat 32 r.val).sle (BitVec.ofNat 32 q.val) = decide (r ≤ q) := by
    have hr : (BitVec.ofNat 32 r.val).toInt = r.val := by
      rw [BitVec.toInt_eq_toNat_of_lt (by rw [BitVec.toNat_ofNat]; omega), BitVec.toNat_ofNat, Nat.mod_eq_of_lt (by omega)]
    have hq : (BitVec.ofNat 32 q.val).toInt = q.val := by
      rw [BitVec.toInt_eq_toNat_of_lt (by rw [BitVec.toNat_ofNat]; omega), BitVec.toNat_ofNat, Nat.mod_eq_of_lt (by omega)]
    rw [BitVec.sle, hr, hq]
    simp only [Fin.le_def, Nat.cast_le]
  unfold IntOp.cmpi
  simp only [h]
  by_cases c : r ≤ q
  · simp [c, Scalar.select]
  · simp [c, Scalar.select]

/-- A head's mean. -/
theorem meanStep_meets (E : Env) (D : Done) (h : Fin 8) :
    Meets (meanStep (R := R) h) (J E D) (fun _ => J E { D with mean := fun h' => D.mean h' ∨ h' = h }) := by
  refine Meets.bind Meets.load fun kb => Meets.assign fun σ ⟨hkb, J0⟩ => J0.setMean h _ (fun d => ?_) (fun u hu => ?_)
  · refine (overlay2_in _ _ _ 0 (c8 h d) 0 d (by rfl) (by rfl)).trans ?_
    rw [shapeCast_id]
    refine (meanOf_at _ d).trans ?_
    unfold Attention.mean
    refine congrArg (Ideal.div · _) (Finset.sum_congr rfl fun s _ => ?_)
    refine (drop_at _ _ s d).trans ?_
    rw [hkb]
    show σ .k _ = _
    rw [J0.k]
    refine (congrArg E.k0 (idx3 _ 0 s (c8 h d) 0 s d (by rfl) (by omega) (by rfl))).trans (E.hk h s d)
  · exact overlay2_out _ _ _ 0 u (by omega)

/-- A head's values. -/
theorem vStep_meets (E : Env) (D : Done) (hi : E.i.val < 5) (h : Fin 8) :
    Meets (vStep hR E.i.val hi h) (J E D) (fun _ => J E { D with vt := fun h' b' => D.vt h' b' ∨ (h' = h ∧ b' = E.i) }) := by
  refine Meets.bind Meets.load fun v => Meets.assign fun σ ⟨hv, J0⟩ => J0.setVt h E.i _ (fun d r => ?_) (fun u s hu => ?_)
  · refine (overlay2_in _ _ _ (c8 h d) (vrow E.i r) d r (by rfl) (by rfl)).trans ?_
    rw [shapeCast_id]
    have e : ∀ z : S128x256.Idx → EReal, transpose S256x128 [1, 0] z transposes_S128x256_p1_0_S256x128 (ix2 d r) = z (ix2 r d) := fun z => by pointwise
    refine (e _).trans ((drop_at _ _ r d).trans ?_)
    rw [hv]
    show σ .v _ = _
    rw [J0.v]
    refine (congrArg E.v0 (idx3 _ 0 r (c8 h d) 0 r d (by rfl) (by omega) (by rfl))).trans (E.hv h r d)
  · exact overlay2_out _ _ _ u s (by omega)

/-- A key block of one head. -/
theorem kUnit_meets (E : Env) (D : Done) (n : Fin 10) (h : Fin 8) (tile : FVec Ideal S8x10 .f32) (hm : D.mean h) :
    Meets (kUnit hR n h tile) (J E D) (fun _ => J E { D with
      code := fun h' n' => D.code h' n' ∨ (h' = h ∧ n' = n), scale := fun h' n' => D.scale h' n' ∨ (h' = h ∧ n' = n) }) := by
  unfold kUnit
  refine Meets.bind (Meets.post (Q' := fun (k3 : S1x64x256.Idx → EReal) σ => (∀ r d, shapeCast S64x256 k3 shapeCasts_S1x64x256_S64x256 (ix2 r d) = E.K h (krow n r) d) ∧ J E D σ)
    Meets.load ?_) fun k3 => ?_
  · rintro k3 σ ⟨rfl, J0⟩
    refine ⟨fun r d => (drop_at _ _ r d).trans ?_, J0⟩
    show σ .k _ = _
    rw [J0.k]
    exact (congrArg E.k0 (idx3 _ 0 (krow n r) (c8 h d) 0 r d (by rfl) (by rfl) (by rfl))).trans (E.hk h _ d)
  refine Meets.exists_pre fun hk3 => ?_
  refine Meets.bind (Meets.post (Q' := fun (mn : S1x256.Idx → EReal) σ => (∀ d, mn (ix2 0 d) = Attention.mean (E.K h) d) ∧ J E D σ) Meets.load ?_) fun mn => ?_
  · rintro mn σ ⟨rfl, J0⟩
    refine ⟨fun d => ?_, J0⟩
    exact (congrArg (σ .mean) (idx2 _ 0 (c8 h d) 0 d (by rfl) (by rfl))).trans (J0.mean h hm d)
  refine Meets.exists_pre fun hmn => ?_
  have hR' := kRound_at (E.K h) n (shapeCast S64x256 k3 shapeCasts_S1x64x256_S64x256) mn hk3 hmn
  have hS' := kScale_at (E.K h) n (shapeCast S64x256 k3 shapeCasts_S1x64x256_S64x256) mn hk3 hmn
  change S1x256.Idx → EReal at mn
  generalize kRound (F := Ideal) (shapeCast S64x256 k3 shapeCasts_S1x64x256_S64x256) mn = kr at *
  generalize kScale (F := Ideal) (shapeCast S64x256 k3 shapeCasts_S1x64x256_S64x256) mn = ks at *
  refine Meets.bind (M := fun _ => J E { D with code := fun h' n' => D.code h' n' ∨ (h' = h ∧ n' = n) }) (Meets.assign fun σ J0 => J0.setCode h n _ (fun r d => ?_) (fun s u hu => ?_)) fun _ => ?_
  · refine (overlay2_in _ _ _ (krow n r) (c8 h d) r d (by rfl) (by rfl)).trans ?_
    rw [shapeCast_id]
    exact hR' r d
  · exact overlay2_out _ _ _ s u (by omega)
  refine Meets.bind (M := fun _ => J E { D with
      code := fun h' n' => D.code h' n' ∨ (h' = h ∧ n' = n), scale := fun h' n' => D.scale h' n' ∨ (h' = h ∧ n' = n) })
    (Meets.assign fun σ J0 => J0.setScale h n _ (fun l => ?_) (fun s u hu => ?_)) fun _ => Meets.ret fun σ J0 => J0
  · refine (overlay2_in _ _ _ ⟨h.val * 10 + n.val, by omega⟩ l 0 l (by rfl) (by omega)).trans ?_
    rw [shapeCast_id, shapeCast_id]
    have e : broadcastTo S1x128 ks broadcasts_S1x1_S1x128 (ix2 0 l) = ks (ix2 0 0) := by pointwise
    exact e.trans hS'
  · exact overlay2_out _ _ _ s u (by omega)

end Cert.KernelIdeal.Hand
-- ==== Proof.Attend.lean ====
/-
  A pair of query heads: the scores block by block, the weights, and the pair's attention stored.
-/
module

public import proofs.«01_k».proof.Proof.Units

@[expose] public section
noncomputable section
namespace Cert.KernelIdeal.Hand
open Idealize.ShloMosaic Idealize.ShloMosaic.TcCoe
open Cert.KernelIdeal.Gen Cert.Attention

variable {R : Refs} (hR : ∀ b, (R b).IsWhole)

attribute [local irreducible] meanOf kRound kScale qRound qScale probOf rowsSum rowsMax scores outOf

/-- The masked score of key `s` at query `q`, in base two. -/
def mk (i : Nat) (Q : Fin 128 → Fin 256 → EReal) (K : Fin 640 → Fin 256 → EReal) (s : Nat) (q : Fin 128) : EReal :=
  if h : s < 640 then masked i Q K q ⟨s, h⟩ * lam else 0

/-- A block of 64 keys' scores. -/
def blk (i : Nat) (Q : Fin 128 → Fin 256 → EReal) (K : Fin 640 → Fin 256 → EReal) (n : Nat) : S64x128.Idx → EReal :=
  fun y => mk i Q K (n * 64 + (y 0).val) (y 1)

/-- The columns of the products that are head `g`'s. -/
def cg2 (g : Fin 2) (q : Fin 128) : Fin 256 := ⟨g.val * 128 + q.val, by omega⟩

/-- One block's scores. -/
theorem part_meets (E : Env) (D : Done) (hi : E.i.val < 5) (kv : Fin 8) (g : Fin 2) (Q : Fin 128 → Fin 256 → EReal)
    (st : FVec Ideal ⟨2, ![(E.i.val + 1) * 128, 256]⟩ .f32) (factor : FVec Ideal S1x1 .f32) (n : Nat) (hn : n < 2 * (E.i.val + 1))
    (hsc : D.scale kv ⟨n, by omega⟩) (hmask : D.mask)
    (hst : ∀ (κ : Fin ((E.i.val + 1) * 128)) (q : Fin 128), st (ix2 κ (cg2 g q)) = ∑ d, qCode Q q d * kCode (E.K kv) ⟨κ.val, by omega⟩ d)
    (hf : factor (ix2 0 0) = scl (qAmax Q) * (((Real.log 2)⁻¹ * (1 / 16) : ℝ) : EReal)) :
    Meets (part (R := R) E.i.val hi kv g st factor n hn) (J E D) (fun s σ => s = blk E.i.val Q (E.K kv) n ∧ J E D σ) := by
  unfold part
  refine Meets.bind (Meets.post (Q' := fun (sc : S1x128.Idx → EReal) σ => (∀ l, sc (ix2 0 l) = scl (kAmax (E.K kv) ⟨n, by omega⟩)) ∧ J E D σ) Meets.load ?_) fun sc => ?_
  · rintro sc σ ⟨rfl, J0⟩
    refine ⟨fun l => ?_, J0⟩
    exact (congrArg (σ .kscale) (idx2 _ ⟨kv.val * 10 + n, by omega⟩ l 0 l (by rfl) (by omega))).trans (J0.scale kv ⟨n, by omega⟩ hsc l)
  refine Meets.exists_pre fun hsc' => ?_
  change S1x128.Idx → EReal at sc
  have hb : ∀ (a : Fin 64) (q : Fin 128), broadcastTo S64x128 (mulf (F := Ideal) (φ := .f32) sc (broadcastTo S1x128 factor broadcasts_S1x1_S1x128)) broadcasts_S1x128_S64x128 (ix2 a q)
      = sc (ix2 0 q) * factor (ix2 0 0) := fun a q => by pointwise
  have he : ∀ (h : Shape.Slices ⟨2, ![(E.i.val + 1) * 128, 256]⟩ ![n * 64, g.val * 128] S64x128) (a : Fin 64) (q : Fin 128),
      extractStridedSlice S64x128 ![n * 64, g.val * 128] st h (ix2 a q) = st (ix2 ⟨n * 64 + a.val, by omega⟩ (cg2 g q)) := fun h a q => by
    apply extractStridedSlice_apply
    intro b
    match b with
    | ⟨0, _⟩ => rfl
    | ⟨1, _⟩ => rfl
  have hs : ∀ (a : Fin 64) (q : Fin 128), st (ix2 ⟨n * 64 + a.val, by omega⟩ (cg2 g q)) * (sc (ix2 0 q) * factor (ix2 0 0))
      = score Q (E.K kv) q ⟨n * 64 + a.val, by omega⟩ * lam := fun a q => by
    rw [hst, hsc', hf, score_lam]
    unfold score
    have : kblk ⟨n * 64 + a.val, by omega⟩ = ⟨n, by omega⟩ := Fin.ext (by show (n * 64 + a.val) / 64 = n; omega)
    rw [this]
  by_cases hd : 2 * E.i.val ≤ n
  · rw [dif_pos hd]
    refine Meets.bind (Meets.post (Q' := fun (m : S64x128.Idx → EReal) σ => (∀ (a : Fin 64) (q : Fin 128), m (ix2 a q) = if (n - 2 * E.i.val) * 64 + a.val ≤ q.val then (0 : EReal) else ⊥) ∧ J E D σ) Meets.load ?_) fun m => ?_
    · rintro m σ ⟨rfl, J0⟩
      refine ⟨fun a q => ?_, J0⟩
      exact (congrArg (σ .mask) (idx2 _ ⟨(n - 2 * E.i.val) * 64 + a.val, by omega⟩ q a q (by rfl) (by omega))).trans (J0.mask hmask _ q)
    refine Meets.exists_pre fun hm => Meets.ret fun σ J0 => ⟨?_, J0⟩
    funext y
    obtain ⟨a, q, rfl⟩ : ∃ a q, y = ix2 a q := ⟨y 0, y 1, ValueIdx.eq_ix2 y⟩
    show extractStridedSlice S64x128 ![n * 64, g.val * 128] st _ (ix2 a q) * broadcastTo S64x128 (mulf (F := Ideal) (φ := .f32) sc (broadcastTo S1x128 factor broadcasts_S1x1_S1x128)) broadcasts_S1x128_S64x128 (ix2 a q) + m (ix2 a q)
      = mk E.i.val Q (E.K kv) (n * 64 + a.val) q
    rw [he, hb, hs, hm]
    unfold mk masked
    rw [dif_pos (by omega)]
    by_cases c : (n - 2 * E.i.val) * 64 + a.val ≤ q.val
    · rw [if_pos c, if_pos (by show n * 64 + a.val ≤ E.i.val * 128 + q.val; omega), add_zero]
    · rw [if_neg c, if_neg (by show ¬ n * 64 + a.val ≤ E.i.val * 128 + q.val; omega), EReal.add_bot]
      unfold lam; rw [EReal.bot_mul_coe_of_pos lam_pos]
  · rw [dif_neg hd]
    refine Meets.ret fun σ J0 => ⟨?_, J0⟩
    funext y
    obtain ⟨a, q, rfl⟩ : ∃ a q, y = ix2 a q := ⟨y 0, y 1, ValueIdx.eq_ix2 y⟩
    show extractStridedSlice S64x128 ![n * 64, g.val * 128] st _ (ix2 a q) * broadcastTo S64x128 (mulf (F := Ideal) (φ := .f32) sc (broadcastTo S1x128 factor broadcasts_S1x1_S1x128)) broadcasts_S1x128_S64x128 (ix2 a q)
      = mk E.i.val Q (E.K kv) (n * 64 + a.val) q
    rw [he, hb, hs]
    unfold mk masked
    rw [dif_pos (by omega), if_pos (by show n * 64 + a.val ≤ E.i.val * 128 + q.val; omega)]

/-- All blocks' scores. -/
theorem parts_meets (E : Env) (D : Done) (hi : E.i.val < 5) (kv : Fin 8) (g : Fin 2) (Q : Fin 128 → Fin 256 → EReal)
    (st : FVec Ideal ⟨2, ![(E.i.val + 1) * 128, 256]⟩ .f32) (factor : FVec Ideal S1x1 .f32)
    (hsc : ∀ n : Fin 10, n.val < 2 * (E.i.val + 1) → D.scale kv n) (hmask : D.mask)
    (hst : ∀ (κ : Fin ((E.i.val + 1) * 128)) (q : Fin 128), st (ix2 κ (cg2 g q)) = ∑ d, qCode Q q d * kCode (E.K kv) ⟨κ.val, by omega⟩ d)
    (hf : factor (ix2 0 0) = scl (qAmax Q) * (((Real.log 2)⁻¹ * (1 / 16) : ℝ) : EReal)) : (n j : Nat) → (h : j + n = 2 * (E.i.val + 1)) → (l : Parts Ideal j) →
    (hl : l.1.reverse = List.ofFn (fun j : Fin j => (⟨S64x128, blk E.i.val Q (E.K kv) j.val⟩ : (s : Shape) × (s.Idx → Ideal .f32)))) →
    Meets (parts (R := R) E.i.val hi kv g st factor n j h l) (J E D)
      (fun l σ => l.1 = List.ofFn (fun j : Fin (2 * (E.i.val + 1)) => (⟨S64x128, blk E.i.val Q (E.K kv) j.val⟩ : (s : Shape) × (s.Idx → Ideal .f32))) ∧ J E D σ)
  | 0, j, h, l, hl => Meets.ret fun σ J0 => ⟨by
      have e : ∀ m, j = m → l.1.reverse = List.ofFn (fun j : Fin m => (⟨S64x128, blk E.i.val Q (E.K kv) j.val⟩ : (s : Shape) × (s.Idx → Ideal .f32))) := by
        rintro m rfl; exact hl
      exact e _ h, J0⟩
  | n + 1, j, h, l, hl => by
    refine Meets.bind (part_meets E D hi kv g Q st factor j (by omega) (hsc _ (by show j < _; omega)) hmask hst hf) fun s => Meets.exists_pre fun hs => ?_
    refine parts_meets E D hi kv g Q st factor hsc hmask hst hf n (j + 1) (by omega) (push l s) ?_
    show (⟨S64x128, s⟩ :: l.1).reverse = _
    rw [List.reverse_cons, hl, hs, List.ofFn_succ_last]
    rfl

/-- A head's weights. -/
theorem head_meets (E : Env) (D : Done) (hi : E.i.val < 5) (kv : Fin 8) (g : Fin 2) (Q : Fin 128 → Fin 256 → EReal)
    (st : FVec Ideal ⟨2, ![(E.i.val + 1) * 128, 256]⟩ .f32) (scale : FVec Ideal S1x1 .f32)
    (hsc : ∀ n : Fin 10, n.val < 2 * (E.i.val + 1) → D.scale kv n) (hmask : D.mask)
    (hst : ∀ (κ : Fin ((E.i.val + 1) * 128)) (q : Fin 128), st (ix2 κ (cg2 g q)) = ∑ d, qCode Q q d * kCode (E.K kv) ⟨κ.val, by omega⟩ d)
    (hf : scale (ix2 0 0) = scl (qAmax Q)) :
    Meets (head (R := R) E.i.val hi kv g st scale) (J E D) (fun p σ => (∀ (κ : Fin ((E.i.val + 1) * 128)) (q : Fin 128),
      p (ix2 κ q) = Ideal.exp2 (mk E.i.val Q (E.K kv) κ.val q - Finset.univ.sup fun κ' : Fin ((E.i.val + 1) * 128) => mk E.i.val Q (E.K kv) κ'.val q)) ∧ J E D σ) := by
  unfold head
  refine Meets.bind (parts_meets E D hi kv g Q st _ hsc hmask hst ?_ _ _ _ _ rfl) fun l => Meets.exists_pre fun hl => Meets.ret fun σ J0 => ⟨fun κ q => ?_, J0⟩
  · show scale (ix2 0 0) * (((Real.log 2)⁻¹ * (1 / 16) : ℝ) : EReal) = _
    rw [hf]
  obtain ⟨l, h2⟩ := l
  subst hl
  refine (probOf_at _ _ κ q).trans ?_
  have hc : ∀ (h) (κ : Fin ((E.i.val + 1) * 128)), concatenate ⟨2, ![(E.i.val + 1) * 128, 128]⟩ 0
      (List.ofFn (fun j : Fin (2 * (E.i.val + 1)) => (⟨S64x128, blk E.i.val Q (E.K kv) j.val⟩ : (s : Shape) × (s.Idx → Ideal .f32)))) h (ix2 κ q)
      = mk E.i.val Q (E.K kv) κ.val q := fun h κ => by
    refine (concatenate_ofFn_apply (s₁ := S64x128) 0 (fun j : Fin (2 * (E.i.val + 1)) => blk E.i.val Q (E.K kv) j.val) h rfl 64 rfl (ix2 κ q)
      ⟨κ.val / 64, by omega⟩ rfl (ix2 ⟨κ.val % 64, by omega⟩ q) rfl ?_).trans ?_
    · intro b hb
      match b with
      | ⟨0, _⟩ => exact absurd rfl hb
      | ⟨1, _⟩ => rfl
    · show mk E.i.val Q (E.K kv) (κ.val / 64 * 64 + κ.val % 64) q = _
      rw [Nat.mul_comm, Nat.div_add_mod]
  refine congrArg Ideal.exp2 (congrArg₂ (· - ·) (hc _ κ) (Finset.sup_congr rfl fun κ' _ => hc _ κ'))

/-- Half of a pair's output stored. -/
theorem outStep_meets (E : Env) (D : Done) (kv : Fin 8) (g : Fin 2) (h : Fin 16) (hh : h.val = 2 * kv.val + g.val) (o : FVec Ideal S256x256 .bf16)
    (ho : ∀ r d, o (ix2 (cg2 g r) d) = attn E.i.val (E.X h) (E.K (kvOf h)) (E.V (kvOf h)) r d) :
    Meets (outStep hR kv o g) (J E D) (fun _ => J E { D with out := fun h' => D.out h' ∨ h' = h }) := by
  refine Meets.assign fun σ J0 => J0.setOut h _ (fun r d => ?_) (fun r u hu => ?_)
  · refine (overlay3_in _ _ _ 0 r (c16 h d) 0 r d (by rfl) (by omega) (by show h.val * 256 + d.val = (2 * kv.val + g.val) * 256 + d.val; rw [hh])).trans ?_
    refine (add_at _ _ r d).trans (Eq.trans ?_ (ho r d))
    apply extractStridedSlice_apply
    intro b
    match b with
    | ⟨0, _⟩ => rfl
    | ⟨1, _⟩ => show d.val = 0 + d.val; omega
  · exact overlay3_out _ _ _ 0 r u (by rw [← hh]; omega)

/-- The pair's attention from the weights and values. -/
theorem out_pair (E : Env) (kv : Fin 8) (g : Fin 2) (h : Fin 16) (hh : h.val = 2 * kv.val + g.val)
    (vt : FVec Ideal ⟨2, ![256, (E.i.val + 1) * 128]⟩ .bf16) (p0 p1 : FVec Ideal ⟨2, ![(E.i.val + 1) * 128, 128]⟩ .f32)
    (hv : ∀ d (κ : Fin ((E.i.val + 1) * 128)), vt (ix2 d κ) = E.V kv ⟨κ.val, by omega⟩ d)
    (h0 : g = 0 → ∀ (κ : Fin ((E.i.val + 1) * 128)) (q : Fin 128), p0 (ix2 κ q)
      = Ideal.exp2 (mk E.i.val (E.X h) (E.K kv) κ.val q - Finset.univ.sup fun κ' : Fin ((E.i.val + 1) * 128) => mk E.i.val (E.X h) (E.K kv) κ'.val q))
    (h1 : g = 1 → ∀ (κ : Fin ((E.i.val + 1) * 128)) (q : Fin 128), p1 (ix2 κ q)
      = Ideal.exp2 (mk E.i.val (E.X h) (E.K kv) κ.val q - Finset.univ.sup fun κ' : Fin ((E.i.val + 1) * 128) => mk E.i.val (E.X h) (E.K kv) κ'.val q))
    (r : Fin 128) (d : Fin 256) : outOf E.i.val vt p0 p1 (ix2 (cg2 g r) d) = attn E.i.val (E.X h) (E.K (kvOf h)) (E.V (kvOf h)) r d := by
  have hkv : kvOf h = kv := Fin.ext (by show h.val / 2 = kv.val; omega)
  rw [hkv]
  have key : ∀ p : FVec Ideal ⟨2, ![(E.i.val + 1) * 128, 128]⟩ .f32, (∀ (κ : Fin ((E.i.val + 1) * 128)) (q : Fin 128), p (ix2 κ q)
      = Ideal.exp2 (mk E.i.val (E.X h) (E.K kv) κ.val q - Finset.univ.sup fun κ' : Fin ((E.i.val + 1) * 128) => mk E.i.val (E.X h) (E.K kv) κ'.val q)) →
      Ideal.div (∑ κ : Fin ((E.i.val + 1) * 128), vt (ix2 d κ) * p (ix2 κ r)) (∑ κ : Fin ((E.i.val + 1) * 128), p (ix2 κ r)) = attn E.i.val (E.X h) (E.K kv) (E.V kv) r d := by
    intro p hp
    simp only [hp, hv]
    exact attn_prefix E.i.val (E.X h) (E.K kv) (E.V kv) r d rfl (by omega) (fun κ => mk E.i.val (E.X h) (E.K kv) κ.val r)
      (fun κ => by unfold mk; rw [dif_pos])
  refine (outOf_at _ _ _ _ _ d).trans ?_
  by_cases c : g = 0
  · have e : (cg2 g r).val < 128 := by subst c; show 0 * 128 + r.val < 128; omega
    have e2 : (⟨(cg2 g r).val, e⟩ : Fin 128) = r := Fin.ext (by subst c; show 0 * 128 + r.val = r.val; omega)
    simp only [dif_pos e]
    rw [e2]
    exact key p0 (h0 c)
  · have c1 : g = 1 := by omega
    have e : ¬ (cg2 g r).val < 128 := by subst c1; show ¬ 1 * 128 + r.val < 128; omega
    have e2 : (⟨(cg2 g r).val - 128, by omega⟩ : Fin 128) = r := Fin.ext (by subst c1; show 1 * 128 + r.val - 128 = r.val; omega)
    simp only [dif_neg e]
    rw [e2]
    exact key p1 (h1 c1)

/-- Attention of a pair of heads. -/
theorem attend_meets (E : Env) (D : Done) (hi : E.i.val < 5) (kv : Fin 8) (x0 x1 : FVec Ideal S128x256 .bf16)
    (hx0 : ∀ r d, x0 (ix2 r d) = E.X ⟨2 * kv.val, by omega⟩ r d) (hx1 : ∀ r d, x1 (ix2 r d) = E.X ⟨2 * kv.val + 1, by omega⟩ r d)
    (hco : ∀ n : Fin 10, n.val < 2 * (E.i.val + 1) → D.code kv n) (hsc : ∀ n : Fin 10, n.val < 2 * (E.i.val + 1) → D.scale kv n)
    (hvt : ∀ b : Fin 5, b ≤ E.i → D.vt kv b) (hmask : D.mask) :
    Meets (attend hR E.i.val hi kv x0 x1) (J E D) (fun _ => J E { D with out := fun h => D.out h ∨ h.val / 2 = kv.val }) := by
  have ex0 : (fun r d => x0 (ix2 r d)) = E.X ⟨2 * kv.val, by omega⟩ := by funext r d; exact hx0 r d
  have ex1 : (fun r d => x1 (ix2 r d)) = E.X ⟨2 * kv.val + 1, by omega⟩ := by funext r d; exact hx1 r d
  unfold attend
  refine Meets.bind (Meets.post (Q' := fun (kc : (⟨2, ![(E.i.val + 1) * 128, 256]⟩ : Shape).Idx → EReal) σ =>
    (∀ (κ : Fin ((E.i.val + 1) * 128)) d, kc (ix2 κ d) = kCode (E.K kv) ⟨κ.val, by omega⟩ d) ∧ J E D σ) Meets.load ?_) fun kc => ?_
  · rintro kc σ ⟨rfl, J0⟩
    refine ⟨fun κ d => ?_, J0⟩
    have e : (⟨κ.val, by omega⟩ : Fin 640) = krow ⟨κ.val / 64, by omega⟩ ⟨κ.val % 64, by omega⟩ :=
      Fin.ext (by show κ.val = κ.val / 64 * 64 + κ.val % 64; omega)
    refine (congrArg (σ .kcode) (idx2 _ ⟨κ.val, by omega⟩ (c8 kv d) κ d (Nat.zero_add _).symm (by rfl))).trans ?_
    rw [e]
    exact J0.code kv _ (hco _ (by show κ.val / 64 < _; omega)) _ d
  refine Meets.exists_pre fun hkc => ?_
  have hs0 : ∀ (κ : Fin ((E.i.val + 1) * 128)) (q : Fin 128), scores (F := Ideal) E.i.val kc x0 x1 (ix2 κ (cg2 0 q))
      = ∑ d, qCode (E.X ⟨2 * kv.val, by omega⟩) q d * kCode (E.K kv) ⟨κ.val, by omega⟩ d := fun κ q => by
    refine (scores_at _ _ _ _ κ _).trans (Finset.sum_congr rfl fun d _ => ?_)
    have e : (cg2 0 q).val < 128 := by show 0 * 128 + q.val < 128; omega
    have e2 : (⟨(cg2 0 q).val, e⟩ : Fin 128) = q := Fin.ext (by show 0 * 128 + q.val = q.val; omega)
    rw [dif_pos e, e2, qRound_at, ex0, hkc, mul_comm]
  have hs1 : ∀ (κ : Fin ((E.i.val + 1) * 128)) (q : Fin 128), scores (F := Ideal) E.i.val kc x0 x1 (ix2 κ (cg2 1 q))
      = ∑ d, qCode (E.X ⟨2 * kv.val + 1, by omega⟩) q d * kCode (E.K kv) ⟨κ.val, by omega⟩ d := fun κ q => by
    refine (scores_at _ _ _ _ κ _).trans (Finset.sum_congr rfl fun d _ => ?_)
    have e : ¬ (cg2 1 q).val < 128 := by show ¬ 1 * 128 + q.val < 128; omega
    have e2 : (⟨(cg2 1 q).val - 128, by omega⟩ : Fin 128) = q := Fin.ext (by show 1 * 128 + q.val - 128 = q.val; omega)
    rw [dif_neg e, e2, qRound_at, ex1, hkc, mul_comm]
  refine Meets.bind (head_meets E D hi kv 0 (E.X ⟨2 * kv.val, by omega⟩) _ _ hsc hmask hs0 (by rw [qScale_at, ex0])) fun p0 => Meets.exists_pre fun hp0 => ?_
  refine Meets.bind (head_meets E D hi kv 1 (E.X ⟨2 * kv.val + 1, by omega⟩) _ _ hsc hmask hs1 (by rw [qScale_at, ex1])) fun p1 => Meets.exists_pre fun hp1 => ?_
  refine Meets.bind (Meets.post (Q' := fun (vt : (⟨2, ![256, (E.i.val + 1) * 128]⟩ : Shape).Idx → EReal) σ =>
    (∀ d (κ : Fin ((E.i.val + 1) * 128)), vt (ix2 d κ) = E.V kv ⟨κ.val, by omega⟩ d) ∧ J E D σ) Meets.load ?_) fun vt => ?_
  · rintro vt σ ⟨rfl, J0⟩
    refine ⟨fun d κ => ?_, J0⟩
    have e : (⟨κ.val, by omega⟩ : Fin 640) = vrow ⟨κ.val / 128, by omega⟩ ⟨κ.val % 128, by omega⟩ :=
      Fin.ext (by show κ.val = κ.val / 128 * 128 + κ.val % 128; omega)
    refine (congrArg (σ .vt) (idx2 _ (c8 kv d) ⟨κ.val, by omega⟩ d κ (by rfl) (Nat.zero_add _).symm)).trans ?_
    rw [e]
    exact J0.vt kv _ (hvt _ (by show κ.val / 128 ≤ _; omega)) d _
  refine Meets.exists_pre fun hv => ?_
  refine Meets.post (Meets.pre (Meets.loop (fun j (_ : PUnit) => J E { D with out := fun h => D.out h ∨ (h.val / 2 = kv.val ∧ h.val % 2 < j) }) 2 _ (fun g _ => ?_) PUnit.unit) ?_) ?_
  · refine Meets.post (outStep_meets hR E _ kv g ⟨2 * kv.val + g.val, by omega⟩ rfl _ (out_pair E kv g _ rfl vt p0 p1 hv ?_ ?_)) ?_
    · rintro rfl; exact hp0
    · rintro rfl; exact hp1
    · intro _ σ J0
      refine J0.mono (fun _ => id) (fun _ _ => id) (fun _ _ => id) (fun _ _ => id) (fun h hh => ?_) id
      rcases hh with hh | ⟨a, b⟩
      · exact .inl (.inl hh)
      · by_cases c : h.val % 2 < g.val
        · exact .inl (.inr ⟨a, c⟩)
        · exact .inr (Fin.ext (by show h.val = 2 * kv.val + g.val; omega))
  · intro σ J0
    exact J0.mono (fun _ => id) (fun _ _ => id) (fun _ _ => id) (fun _ _ => id) (fun h hh => hh.resolve_right (by omega)) id
  · intro _ σ J0
    exact J0.mono (fun _ => id) (fun _ _ => id) (fun _ _ => id) (fun _ _ => id) (fun h hh => hh.imp id fun a => ⟨a, by omega⟩) id

end Cert.KernelIdeal.Hand
-- ==== Proof.Body.lean ====
/-
  The whole body: from what is known before a block to what is known after it.
-/
module

public import proofs.«01_k».proof.Proof.Attend

@[expose] public section
noncomputable section
namespace Cert.KernelIdeal.Hand
open Idealize.ShloMosaic Idealize.ShloMosaic.TcCoe
open Cert.KernelIdeal.Gen Cert.Attention

variable {R : Refs} (hR : ∀ b, (R b).IsWhole)

/-- More key blocks done. -/
def Done.addK (D : Done) (P : Fin 8 → Fin 10 → Prop) : Done :=
  { D with code := fun h n => D.code h n ∨ P h n, scale := fun h n => D.scale h n ∨ P h n }

/-- More heads' attention done. -/
def Done.addO (D : Done) (P : Fin 16 → Prop) : Done := { D with out := fun h => D.out h ∨ P h }

theorem J.addK {E : Env} {D : Done} {P Q S : Fin 8 → Fin 10 → Prop} {σ : St Ideal} (J0 : J E ((D.addK P).addK Q) σ) (h : ∀ a b, S a b → P a b ∨ Q a b) :
    J E (D.addK S) σ :=
  J0.mono (fun _ => id) (fun a b c => c.elim (fun c => .inl (.inl c)) fun c => (h a b c).elim (fun c => .inl (.inr c)) .inr)
    (fun a b c => c.elim (fun c => .inl (.inl c)) fun c => (h a b c).elim (fun c => .inl (.inr c)) .inr) (fun _ _ => id) (fun _ => id) id

theorem J.addK0 {E : Env} {D : Done} {S : Fin 8 → Fin 10 → Prop} {σ : St Ideal} (J0 : J E D σ) (h : ∀ a b, ¬ S a b) : J E (D.addK S) σ :=
  J0.mono (fun _ => id) (fun a b c => c.resolve_right (h a b)) (fun a b c => c.resolve_right (h a b)) (fun _ _ => id) (fun _ => id) id

theorem J.addO {E : Env} {D : Done} {P Q S : Fin 16 → Prop} {σ : St Ideal} (J0 : J E ((D.addO P).addO Q) σ) (h : ∀ a, S a → P a ∨ Q a) :
    J E (D.addO S) σ :=
  J0.mono (fun _ => id) (fun _ _ => id) (fun _ _ => id) (fun _ _ => id) (fun a c => c.elim (fun c => .inl (.inl c)) fun c => (h a c).elim (fun c => .inl (.inr c)) .inr) id

theorem J.addO0 {E : Env} {D : Done} {S : Fin 16 → Prop} {σ : St Ideal} (J0 : J E D σ) (h : ∀ a, ¬ S a) : J E (D.addO S) σ :=
  J0.mono (fun _ => id) (fun _ _ => id) (fun _ _ => id) (fun _ _ => id) (fun a c => c.resolve_right (h a)) id

/-- The words of codes are no part of it. -/
theorem kWords_meets (E : Env) (D : Done) (d word : Fin 2) (a b c e : FVec Ideal S64x256 .f32) :
    Meets (kWords (R := R) d word a b c e) (J E D) (fun _ => J E D) := by
  unfold kWords
  exact Meets.loop (fun _ (_ : PUnit) => J E D) 2 _ (fun j _ => Meets.assign fun σ J0 => J0.other .kc32 rfl _) PUnit.unit

theorem qWords_meets (E : Env) (D : Done) (word : Fin 4) (a b c e : FVec Ideal S128x256 .f32) :
    Meets (qWords (R := R) word a b c e) (J E D) (fun _ => J E D) := by
  unfold qWords
  exact Meets.loop (fun _ (_ : PUnit) => J E D) 2 _ (fun j _ => Meets.assign fun σ J0 => J0.other .qc32 rfl _) PUnit.unit

theorem codesOut_meets (E : Env) (D : Done) : Meets (codesOut hR) (J E D) (fun _ => J E D) := by
  unfold codesOut
  refine Meets.bind Meets.load fun q => ?_
  refine Meets.bind (M := fun _ => J E D) (Meets.assign fun σ J0 => J0.2.other .qc rfl _) fun _ => ?_
  refine Meets.bind Meets.load fun q => ?_
  exact Meets.assign fun σ J0 => J0.2.other .kc rfl _

/-- Four heads of a key block. -/
theorem kGroup_meets (E : Env) (D : Done) (n : Fin 10) (d word : Fin 2) (tile : FVec Ideal S8x10 .f32) (hm : ∀ h, D.mean h) :
    Meets (kGroup hR n d word tile) (J E D) (fun _ => J E (D.addK fun h' n' => h'.val / 4 = word.val ∧ n' = n)) := by
  unfold kGroup
  refine Meets.bind (kUnit_meets hR E D n _ _ (hm _)) fun a => ?_
  refine Meets.bind (kUnit_meets hR E (D.addK _) n _ _ (hm _)) fun b => ?_
  refine Meets.bind (kUnit_meets hR E ((D.addK _).addK _) n _ _ (hm _)) fun c => ?_
  refine Meets.bind (kUnit_meets hR E (((D.addK _).addK _).addK _) n _ _ (hm _)) fun e => ?_
  refine Meets.bind (kWords_meets E ((((D.addK _).addK _).addK _).addK _) d word _ _ _ _) fun _ => Meets.ret fun σ J0 => ?_
  have J1 := J.addK (S := fun h' n' => (h'.val = 4 * word.val + 2 ∨ h'.val = 4 * word.val + 3) ∧ n' = n) J0
    (fun a b c => c.1.elim (fun e => .inl ⟨Fin.ext e, c.2⟩) fun e => .inr ⟨Fin.ext e, c.2⟩)
  have J2 := J.addK (S := fun h' n' => (h'.val = 4 * word.val + 1 ∨ h'.val = 4 * word.val + 2 ∨ h'.val = 4 * word.val + 3) ∧ n' = n) J1
    (fun a b c => c.1.elim (fun e => .inl ⟨Fin.ext e, c.2⟩) fun e => .inr ⟨e, c.2⟩)
  refine J.addK J2 (fun a b c => ?_)
  by_cases e : a.val = 4 * word.val
  · exact .inl ⟨Fin.ext e, c.2⟩
  · exact .inr ⟨by omega, c.2⟩

/-- The two key blocks of block `i`. -/
theorem kPhase_meets (E : Env) (D : Done) (hi : E.i.val < 5) (hm : ∀ h, D.mean h) :
    Meets (kPhase hR E.i.val hi) (J E D) (fun _ => J E (D.addK fun _ n => n.val / 2 = E.i.val)) := by
  unfold kPhase
  refine Meets.bind Meets.load fun t => ?_
  refine Meets.bind (M := fun _ => J E (D.addK fun _ n => n.val / 2 = E.i.val)) ?_ fun t => Meets.assign fun σ J0 => J0.other .ks rfl _
  refine Meets.post (Meets.pre (Meets.loop (fun d (_ : FVec Ideal S8x10 .f32) => J E (D.addK fun _ n => n.val / 2 = E.i.val ∧ n.val % 2 < d)) 2 _ (fun d t => ?_) _) ?_) ?_
  · refine Meets.post (Meets.pre (Meets.loop (fun w (_ : FVec Ideal S8x10 .f32) => J E ((D.addK fun _ n => n.val / 2 = E.i.val ∧ n.val % 2 < d.val).addK
      fun h n => h.val / 4 < w ∧ n.val = 2 * E.i.val + d.val)) 2 _ (fun w t => ?_) _) ?_) ?_
    · refine Meets.post (kGroup_meets hR E ((D.addK _).addK _) ⟨2 * E.i.val + d.val, by omega⟩ d w t hm) ?_
      intro _ σ J0
      exact J.addK J0 fun a b c => by
        by_cases e : a.val / 4 < w.val
        · exact .inl ⟨e, c.2⟩
        · exact .inr ⟨by omega, Fin.ext c.2⟩
    · exact fun σ J0 => J0.addK0 fun a b c => by omega
    · intro _ σ J0
      refine J.addK J0 fun a b c => ?_
      by_cases e : b.val % 2 < d.val
      · exact .inl ⟨c.1, e⟩
      · exact .inr ⟨by omega, by omega⟩
  · exact fun σ J0 => J0.2.addK0 fun a b c => by omega
  · intro _ σ J0
    exact J0.mono (fun _ => id) (fun a b c => c.imp id fun c => ⟨c, by omega⟩) (fun a b c => c.imp id fun c => ⟨c, by omega⟩) (fun _ _ => id) (fun _ => id) id

/-- A query head read. -/
theorem qUnit_meets (E : Env) (D : Done) (h : Fin 16) (row : FVec Ideal S1x16 .f32) :
    Meets (qUnit (R := R) h row) (J E D) (fun a σ => (∀ r d, a.2 (ix2 r d) = E.X h r d) ∧ J E D σ) := by
  unfold qUnit
  refine Meets.bind Meets.load fun x => Meets.ret ?_
  rintro σ ⟨rfl, J0⟩
  refine ⟨fun r d => ?_, J0⟩
  dsimp only
  refine (drop_at _ _ r d).trans ?_
  show σ .x _ = _
  rw [J0.x]
  exact (congrArg E.x0 (idx3 _ 0 r (c16 h d) 0 r d (by rfl) (Nat.zero_add _).symm (by rfl))).trans (E.hx h r d)

/-- Four query heads. -/
theorem qGroup_meets (E : Env) (D : Done) (hi : E.i.val < 5) (w : Fin 4) (row : FVec Ideal S1x16 .f32)
    (hco : ∀ kv (n : Fin 10), n.val < 2 * (E.i.val + 1) → D.code kv n) (hsc : ∀ kv (n : Fin 10), n.val < 2 * (E.i.val + 1) → D.scale kv n)
    (hvt : ∀ kv (b : Fin 5), b ≤ E.i → D.vt kv b) (hmask : D.mask) :
    Meets (qGroup hR E.i.val hi w row) (J E D) (fun _ => J E (D.addO fun h => h.val / 4 = w.val)) := by
  unfold qGroup
  refine Meets.bind (qUnit_meets E D _ _) fun a => Meets.exists_pre fun ha => ?_
  refine Meets.bind (qUnit_meets E D _ _) fun b => Meets.exists_pre fun hb => ?_
  refine Meets.bind (attend_meets hR E D hi ⟨2 * w.val, by omega⟩ a.2 b.2 (fun r d => (ha r d).trans (congrArg (fun h => E.X h r d) (Fin.ext (by show 4 * w.val = 2 * (2 * w.val); omega))))
    (fun r d => (hb r d).trans (congrArg (fun h => E.X h r d) (Fin.ext (by show 4 * w.val + 1 = 2 * (2 * w.val) + 1; omega)))) (hco _) (hsc _) (hvt _) hmask) fun _ => ?_
  refine Meets.bind (qUnit_meets E (D.addO _) _ _) fun c => Meets.exists_pre fun hc => ?_
  refine Meets.bind (qUnit_meets E (D.addO _) _ _) fun d => Meets.exists_pre fun hd => ?_
  refine Meets.bind (qWords_meets E (D.addO _) w _ _ _ _) fun _ => ?_
  refine Meets.bind (attend_meets hR E (D.addO _) hi ⟨2 * w.val + 1, by omega⟩ c.2 d.2 (fun r e => (hc r e).trans (congrArg (fun h => E.X h r e) (Fin.ext (by show 4 * w.val + 2 = 2 * (2 * w.val + 1); omega))))
    (fun r e => (hd r e).trans (congrArg (fun h => E.X h r e) (Fin.ext (by show 4 * w.val + 3 = 2 * (2 * w.val + 1) + 1; omega)))) (hco _) (hsc _) (hvt _) hmask) fun _ => Meets.ret fun σ J0 => ?_
  refine J.addO J0 fun h c => ?_
  by_cases e : h.val / 2 = 2 * w.val
  · exact .inl e
  · exact .inr (by show h.val / 2 = 2 * w.val + 1; omega)

/-- All query heads. -/
theorem qPhase_meets (E : Env) (D : Done) (hi : E.i.val < 5)
    (hco : ∀ kv (n : Fin 10), n.val < 2 * (E.i.val + 1) → D.code kv n) (hsc : ∀ kv (n : Fin 10), n.val < 2 * (E.i.val + 1) → D.scale kv n)
    (hvt : ∀ kv (b : Fin 5), b ≤ E.i → D.vt kv b) (hmask : D.mask) :
    Meets (qPhase hR E.i.val hi) (J E D) (fun _ => J E (D.addO fun _ => True)) := by
  unfold qPhase
  refine Meets.post (Meets.pre (Meets.loop (fun w (_ : FVec Ideal S1x16 .f32) => J E (D.addO fun h => h.val / 4 < w)) 4 _ (fun w t => ?_) _) ?_) ?_
  · refine Meets.post (qGroup_meets hR E (D.addO _) hi w t hco hsc hvt hmask) ?_
    intro _ σ J0
    exact J.addO J0 fun h c => by
      by_cases e : h.val / 4 < w.val
      · exact .inl e
      · exact .inr (by omega)
  · exact fun σ J0 => J0.addO0 fun h c => by omega
  · intro _ σ J0
    exact J0.mono (fun _ => id) (fun _ _ => id) (fun _ _ => id) (fun _ _ => id) (fun h c => c.imp id fun _ => by omega) id

/-- Known before block `n`. -/
def before (first : Bool) (n : Nat) : Done :=
  ⟨fun _ => 0 < n, fun _ m => m.val < 2 * n, fun _ m => m.val < 2 * n, fun _ b => b.val < n, fun _ => False, first = false⟩

/-- Known once the means and the mask are made. -/
def ready (n : Nat) : Done :=
  ⟨fun _ => True, fun _ m => m.val < 2 * n, fun _ m => m.val < 2 * n, fun _ b => b.val < n, fun _ => False, True⟩

/-- Known after block `n`. -/
def after (n : Nat) : Done :=
  ⟨fun _ => True, fun _ m => m.val < 2 * (n + 1), fun _ m => m.val < 2 * (n + 1), fun _ b => b.val < n + 1, fun _ => True, True⟩

/-- All heads' means. -/
theorem means_meets (E : Env) (D : Done) : Meets (means (R := R)) (J E D) (fun _ => J E { D with mean := fun _ => True }) := by
  unfold means
  refine Meets.post (Meets.pre (Meets.loop (fun j (_ : PUnit) => J E { D with mean := fun h => D.mean h ∨ h.val < j }) 8 _ (fun h _ => ?_) PUnit.unit) ?_) ?_
  · refine Meets.post (meanStep_meets E _ h) ?_
    intro _ σ J0
    refine J0.mono (fun a c => ?_) (fun _ _ => id) (fun _ _ => id) (fun _ _ => id) (fun _ => id) id
    rcases c with c | c
    · exact .inl (.inl c)
    · by_cases e : a.val < h.val
      · exact .inl (.inr e)
      · exact .inr (Fin.ext (by omega))
  · exact fun σ J0 => J0.mono (fun a c => c.resolve_right (by omega)) (fun _ _ => id) (fun _ _ => id) (fun _ _ => id) (fun _ => id) id
  · exact fun _ σ J0 => J0.mono (fun a c => .inr a.isLt) (fun _ _ => id) (fun _ _ => id) (fun _ _ => id) (fun _ => id) id

/-- The means and the mask. -/
theorem prelude_meets (E : Env) (first : Bool) : (n : Nat) → (first = true → n = 0) →
    Meets (Hand.prelude (R := R) first n) (J E (before first n)) (fun _ => J E (ready n))
  | 0, _ => by
    cases first
    · refine Meets.post (means_meets E _) fun _ σ J0 => ?_
      exact J0.mono (fun _ => id) (fun _ _ => id) (fun _ _ => id) (fun _ _ => id) (fun _ => id) fun _ => rfl
    · refine Meets.bind (maskStep_meets E _) fun _ => Meets.post (means_meets E _) fun _ σ J0 => ?_
      exact J0.mono (fun _ => id) (fun _ _ => id) (fun _ _ => id) (fun _ _ => id) (fun _ => id) fun _ => trivial
  | n + 1, hf => Meets.ret fun σ J0 => by
    refine J0.mono (fun _ _ => Nat.succ_pos n) (fun _ _ => id) (fun _ _ => id) (fun _ _ => id) (fun _ => id) fun _ => ?_
    cases first
    · rfl
    · exact absurd (hf rfl) (Nat.succ_ne_zero n)

/-- The step of block `i`. -/
theorem step_meets (E : Env) (hi : E.i.val < 5) (off : Fin 3 → Nat) (ho) :
    Meets (step hR E.i.val hi off ho) (J E (ready E.i.val)) (fun _ => J E (after E.i.val)) := by
  unfold step
  refine Meets.bind (kPhase_meets hR E _ hi fun _ => trivial) fun _ => ?_
  refine Meets.bind (M := fun _ => J E { (ready E.i.val).addK (fun _ n => n.val / 2 = E.i.val) with vt := fun _ b => b.val < E.i.val + 1 }) ?_ fun _ => ?_
  · refine Meets.post (Meets.pre (Meets.loop (fun j (_ : PUnit) => J E { (ready E.i.val).addK (fun _ n => n.val / 2 = E.i.val) with
      vt := fun h b => b.val < E.i.val ∨ (h.val < j ∧ b = E.i) }) 8 _ (fun h _ => ?_) PUnit.unit) ?_) ?_
    · refine Meets.post (vStep_meets hR E _ hi h) fun _ σ J0 => ?_
      refine J0.mono (fun _ => id) (fun _ _ => id) (fun _ _ => id) (fun a b c => ?_) (fun _ => id) id
      rcases c with c | c
      · exact .inl (.inl c)
      · by_cases e : a.val < h.val
        · exact .inl (.inr ⟨e, c.2⟩)
        · exact .inr ⟨Fin.ext (by omega), c.2⟩
    · exact fun σ J0 => J0.mono (fun _ => id) (fun _ _ => id) (fun _ _ => id) (fun a b c => c.resolve_right (by omega)) (fun _ => id) id
    · intro _ σ J0
      refine J0.mono (fun _ => id) (fun _ _ => id) (fun _ _ => id) (fun a b c => ?_) (fun _ => id) id
      by_cases e : b.val < E.i.val
      · exact .inl e
      · have c : b.val < E.i.val + 1 := c
        exact .inr ⟨a.isLt, Fin.ext (by omega)⟩
  refine Meets.bind (qPhase_meets hR E _ hi ?_ ?_ ?_ trivial) fun row => ?_
  · intro kv n hn
    by_cases e : n.val < 2 * E.i.val
    · exact .inl e
    · exact .inr (by omega)
  · intro kv n hn
    by_cases e : n.val < 2 * E.i.val
    · exact .inl e
    · exact .inr (by omega)
  · intro kv b hb
    show b.val < E.i.val + 1
    omega
  refine Meets.bind (M := fun _ => J E (after E.i.val)) (Meets.assign fun σ J0 => J.other ?_ .qs rfl _) fun _ => codesOut_meets hR E _
  refine J0.mono (fun _ => id) (fun a n c => ?_) (fun a n c => ?_) (fun _ _ => id) (fun _ _ => .inr trivial) id
  · have c : n.val < 2 * (E.i.val + 1) := c
    by_cases e : n.val < 2 * E.i.val
    · exact .inl e
    · exact .inr (by omega)
  · have c : n.val < 2 * (E.i.val + 1) := c
    by_cases e : n.val < 2 * E.i.val
    · exact .inl e
    · exact .inr (by omega)

/-- The body of block `i`. -/
theorem body_meets (E : Env) (first : Bool) (hf : first = true → E.i.val = 0) (hi : E.i.val < 5) (off : Fin 3 → Nat) (ho) :
    Meets (body hR first E.i.val hi off ho) (J E (before first E.i.val)) (fun _ => J E (after E.i.val)) :=
  Meets.bind (prelude_meets E first E.i.val hf) fun _ => step_meets hR E hi off ho

end Cert.KernelIdeal.Hand
-- ==== Proof.RefStages.lean ====
/-
  The reference's first result as a chain of named stages, one per line of the mathematics.
-/
module

public import proofs.«01_k».proof.Proof.Gen.ReferenceIdeal.Run
public import proofs.«01_k».proof.Proof.Spec

@[expose] public section

noncomputable section

namespace Cert.ReferenceIdeal.Hand

open Idealize.ShloMosaic Idealize.ShloMosaic.TcCoe
open Cert.ReferenceIdeal.Gen Cert.ReferenceIdeal.Value

/-- The queries by blocks of 128. -/
def q5 (x : FVec Ideal S3x640x4096 .bf16) : FVec Ideal S3x5x128x16x256 .f32 :=
  (shapeCast _ (shapeCast _ (extf .f32 x bitsLt_bf16_f32) shapeCasts_S3x640x4096_S3x640x16x256) shapeCasts_S3x640x16x256_S3x5x128x16x256)

/-- The keys by heads. -/
def k4 (k : FVec Ideal S3x640x2048 .bf16) : FVec Ideal S3x640x8x256 .f32 :=
  (shapeCast _ (extf .f32 k bitsLt_bf16_f32) shapeCasts_S3x640x2048_S3x640x8x256)

/-- The keys less their mean. -/
def kc4 (k : FVec Ideal S3x640x2048 .bf16) : FVec Ideal S3x640x8x256 .f32 :=
  (subf (k4 k) (broadcastInDim S3x640x8x256 ![0, 1, 2, 3] bcast_S3x1x8x256_S3x640x8x256_0_1_2_3 (Host.divf (broadcastInDim S3x1x8x256 ![0, 2, 3] bcast_S3x8x256_S3x1x8x256_0_2_3 (Host.reduceAdd (k4 k) (constant S_ .f32 0x00000000#32) reducesTo_S3x640x8x256_S3x8x256_d1 h_S_)) (broadcastInDim S3x1x8x256 ![] bcast_S_S3x1x8x256 (constant S_ .f32 0x44200000#32)))))

/-- The same by blocks of 64. -/
def kc5 (k : FVec Ideal S3x640x2048 .bf16) : FVec Ideal S3x10x64x8x256 .f32 :=
  (shapeCast _ (kc4 k) shapeCasts_S3x640x8x256_S3x10x64x8x256)

/-- The largest query of each block and head. -/
def qa (x : FVec Ideal S3x640x4096 .bf16) : FVec Ideal S3x5x16 .f32 :=
  (Host.reduce FloatOps.maximumf (Host.absf (q5 x)) (constant S_ .f32 0xFF800000#32) reducesTo_S3x5x128x16x256_S3x5x16_d2_4 h_S_)

/-- The largest key of each block and head. -/
def ka (k : FVec Ideal S3x640x2048 .bf16) : FVec Ideal S3x10x8 .f32 :=
  (Host.reduce FloatOps.maximumf (Host.absf (kc5 k)) (constant S_ .f32 0xFF800000#32) reducesTo_S3x10x64x8x256_S3x10x8_d2_4 h_S_)

/-- The query scales. -/
def qs (x : FVec Ideal S3x640x4096 .bf16) : FVec Ideal S3x5x16 .f32 :=
  (select (cmpf .ogt (qa x) (broadcastInDim S3x5x16 ![] bcast_S_S3x5x16 (constant S_ .f32 0x00000000#32))) (Host.divf (qa x) (broadcastInDim S3x5x16 ![] bcast_S_S3x5x16 (constant S_ .f32 0x42FE0000#32))) (broadcastInDim S3x5x16 ![] bcast_S_S3x5x16 (id (constant S_ .f32 0x3F800000#32))))

/-- The key scales. -/
def ks (k : FVec Ideal S3x640x2048 .bf16) : FVec Ideal S3x10x8 .f32 :=
  (select (cmpf .ogt (ka k) (broadcastInDim S3x10x8 ![] bcast_S_S3x10x8 (constant S_ .f32 0x00000000#32))) (Host.divf (ka k) (broadcastInDim S3x10x8 ![] bcast_S_S3x10x8 (constant S_ .f32 0x42FE0000#32))) (broadcastInDim S3x10x8 ![] bcast_S_S3x10x8 (id (constant S_ .f32 0x3F800000#32))))

/-- The query codes. -/
def qc (x : FVec Ideal S3x640x4096 .bf16) : FVec Ideal S3x5x128x16x256 .f32 :=
  (minimumf (broadcastInDim S3x5x128x16x256 ![] bcast_S_S3x5x128x16x256 (id (constant S_ .f32 0x42FE0000#32))) (maximumf (broadcastInDim S3x5x128x16x256 ![] bcast_S_S3x5x128x16x256 (id (constant S_ .f32 0xC2FE0000#32))) (Host.roundeven (Host.divf (q5 x) (broadcastInDim S3x5x128x16x256 ![0, 1, 2, 3, 4] bcast_S3x5x1x16x1_S3x5x128x16x256_0_1_2_3_4 (broadcastInDim S3x5x1x16x1 ![0, 1, 3] bcast_S3x5x16_S3x5x1x16x1_0_1_3 (qs x)))))))

/-- The key codes. -/
def kc (k : FVec Ideal S3x640x2048 .bf16) : FVec Ideal S3x10x64x8x256 .f32 :=
  (minimumf (broadcastInDim S3x10x64x8x256 ![] bcast_S_S3x10x64x8x256 (id (constant S_ .f32 0x42FE0000#32))) (maximumf (broadcastInDim S3x10x64x8x256 ![] bcast_S_S3x10x64x8x256 (id (constant S_ .f32 0xC2FE0000#32))) (Host.roundeven (Host.divf (kc5 k) (broadcastInDim S3x10x64x8x256 ![0, 1, 2, 3, 4] bcast_S3x10x1x8x1_S3x10x64x8x256_0_1_2_3_4 (broadcastInDim S3x10x1x8x1 ![0, 1, 3] bcast_S3x10x8_S3x10x1x8x1_0_1_3 (ks k)))))))

/-- The products of codes. -/
def qk (x : FVec Ideal S3x640x4096 .bf16) (k : FVec Ideal S3x640x2048 .bf16) : FVec Ideal S3x8x2x640x640 .f32 :=
  (Host.dotGeneral dot_S3x8x2x640x256_S3x8x640x256_S3x8x2x640x640_4_3_23_2_01_01 none (transpose S3x8x2x640x256 [0, 2, 3, 1, 4] (shapeCast _ (truncf .bf16 (shapeCast _ (qc x) shapeCasts_S3x5x128x16x256_S3x640x16x256) bitsLt_bf16_f32) shapeCasts_S3x640x16x256_S3x640x8x2x256) transposes_S3x640x8x2x256_S3x8x2x640x256_0_2_3_1_4) (transpose S3x8x640x256 [0, 2, 1, 3] (truncf .bf16 (shapeCast _ (kc k) shapeCasts_S3x10x64x8x256_S3x640x8x256) bitsLt_bf16_f32) transposes_S3x640x8x256_S3x8x640x256_0_2_1_3))

/-- The scores. -/
def sc (x : FVec Ideal S3x640x4096 .bf16) (k : FVec Ideal S3x640x2048 .bf16) : FVec Ideal S3x8x2x640x640 .f32 :=
  (mulf (mulf (mulf (qk x k) (broadcastInDim S3x8x2x640x640 ![0, 1, 2, 3, 4] bcast_S3x8x2x640x1_S3x8x2x640x640_0_1_2_3_4 (broadcastInDim S3x8x2x640x1 ![0, 1, 2, 3] bcast_S3x8x2x640_S3x8x2x640x1_0_1_2_3 (transpose S3x8x2x640 [0, 2, 3, 1] (shapeCast _ (shapeCast _ (broadcastInDim S3x5x128x16 ![0, 1, 3] bcast_S3x5x16_S3x5x128x16_0_1_3 (qs x)) shapeCasts_S3x5x128x16_S3x640x16) shapeCasts_S3x640x16_S3x640x8x2) transposes_S3x640x8x2_S3x8x2x640_0_2_3_1)))) (broadcastInDim S3x8x2x640x640 ![0, 1, 2, 3, 4] bcast_S3x8x1x1x640_S3x8x2x640x640_0_1_2_3_4 (broadcastInDim S3x8x1x1x640 ![0, 1, 4] bcast_S3x8x640_S3x8x1x1x640_0_1_4 (transpose S3x8x640 [0, 2, 1] (shapeCast _ (broadcastInDim S3x10x64x8 ![0, 1, 3] bcast_S3x10x8_S3x10x64x8_0_1_3 (ks k)) shapeCasts_S3x10x64x8_S3x640x8) transposes_S3x640x8_S3x8x640_0_2_1)))) (broadcastInDim S3x8x2x640x640 ![] bcast_S_S3x8x2x640x640 (constant S_ .f32 0x3D800000#32)))

/-- The masked scores. -/
def ms (x : FVec Ideal S3x640x4096 .bf16) (k : FVec Ideal S3x640x2048 .bf16) : FVec Ideal S3x8x2x640x640 .f32 :=
  (select (broadcastInDim S3x8x2x640x640 ![3, 4] bcast_S640x640_S3x8x2x640x640_3_4 (cmpi .sle (broadcastInDim S640x640 ![0, 1] bcast_S1x640_S640x640_0_1 (broadcastInDim S1x640 ![1] bcast_S640_S1x640_1 (iotaInDim S640 32 0))) (broadcastInDim S640x640 ![0, 1] bcast_S640x1_S640x640_0_1 (broadcastInDim S640x1 ![0] bcast_S640_S640x1_0 (iotaInDim S640 32 0))))) (sc x k) (broadcastInDim S3x8x2x640x640 ![] bcast_S_S3x8x2x640x640 (id (constant S_ .f32 0xFF800000#32))))

/-- The weights. -/
def pr (x : FVec Ideal S3x640x4096 .bf16) (k : FVec Ideal S3x640x2048 .bf16) : FVec Ideal S3x8x2x640x640 .f32 :=
  (Host.exp (subf (ms x k) (broadcastInDim S3x8x2x640x640 ![0, 1, 2, 3, 4] bcast_S3x8x2x640x1_S3x8x2x640x640_0_1_2_3_4 (broadcastInDim S3x8x2x640x1 ![0, 1, 2, 3] bcast_S3x8x2x640_S3x8x2x640x1_0_1_2_3 (Host.reduce FloatOps.maximumf (ms x k) (constant S_ .f32 0xFF800000#32) reducesTo_S3x8x2x640x640_S3x8x2x640_d4 h_S_)))))

/-- The result. -/
def out (x : FVec Ideal S3x640x4096 .bf16) (k : FVec Ideal S3x640x2048 .bf16) (v : FVec Ideal S3x640x2048 .bf16) : FVec Ideal S3x640x4096 .bf16 :=
  shapeCast _ (transpose S3x640x8x2x256 [0, 3, 1, 2, 4] (truncf .bf16 (Host.divf (Host.dotGeneral dot_S3x8x2x640x640_S3x8x640x256_S3x8x2x640x256_4_2_23_3_01_01 none (truncf .bf16 (pr x k) bitsLt_bf16_f32) (transpose S3x8x640x256 [0, 2, 1, 3] (shapeCast _ v shapeCasts_S3x640x2048_S3x640x8x256) transposes_S3x640x8x256_S3x8x640x256_0_2_1_3)) (broadcastInDim S3x8x2x640x256 ![0, 1, 2, 3, 4] bcast_S3x8x2x640x1_S3x8x2x640x256_0_1_2_3_4 (broadcastInDim S3x8x2x640x1 ![0, 1, 2, 3] bcast_S3x8x2x640_S3x8x2x640x1_0_1_2_3 (Host.reduceAdd (pr x k) (constant S_ .f32 0x00000000#32) reducesTo_S3x8x2x640x640_S3x8x2x640_d4 h_S_)))) bitsLt_bf16_f32) transposes_S3x8x2x640x256_S3x640x8x2x256_0_3_1_2_4) shapeCasts_S3x640x8x2x256_S3x640x4096

/-- The reference's first result is the last stage. -/
theorem res_eq (m : (ℓ : Loc nD τ sig) → Buf (Elt Ideal) ℓ) (c : Dev nD) :
    res_main_v81 m c = out (m ((c.tc : Thread nD τ).loc main_arg0)) (m ((c.tc : Thread nD τ).loc main_arg1)) (m ((c.tc : Thread nD τ).loc main_arg2)) := rfl

end Cert.ReferenceIdeal.Hand
-- ==== Proof.RefValue.lean ====
/-
  The reference's first result, index by index: attention as `Spec` states it.
-/
module

public import proofs.«01_k».proof.Proof.RefStages

@[expose] public section
noncomputable section
namespace Cert.ReferenceIdeal.Hand
open Idealize.ShloMosaic Idealize.ShloMosaic.TcCoe
open Cert.ReferenceIdeal.Gen Cert.ReferenceIdeal.Value Cert.Attention

variable (x : FVec Ideal S3x640x4096 .bf16) (k v : FVec Ideal S3x640x2048 .bf16)

/-- Block `i` of head `h`'s queries. -/
def qOf (b : Fin 3) (i : Fin 5) (h : Fin 16) (r : Fin 128) (d : Fin 256) : EReal :=
  x (ix3 b ⟨i.val * 128 + r.val, by omega⟩ ⟨h.val * 256 + d.val, by omega⟩)

/-- Head `h`'s keys (or values). -/
def kOf (b : Fin 3) (h : Fin 8) (s : Fin 640) (d : Fin 256) : EReal :=
  k (ix3 b s ⟨h.val * 256 + d.val, by omega⟩)

theorem q5_at (b : Fin 3) (i : Fin 5) (r : Fin 128) (h : Fin 16) (d : Fin 256) : q5 x (ix5 b i r h d) = qOf x b i h r d := by
  unfold q5; pointwise; rfl
theorem kc4_at (b : Fin 3) (s : Fin 640) (h : Fin 8) (d : Fin 256) :
    kc4 k (ix4 b s h d) = kOf k b h s d - mean (kOf k b h) d := by
  unfold kc4 k4; pointwise; rfl
attribute [local irreducible] q5 k4 kc4
theorem kc5_at (b : Fin 3) (n : Fin 10) (r : Fin 64) (h : Fin 8) (d : Fin 256) :
    kc5 k (ix5 b n r h d) = kOf k b h (krow n r) d - mean (kOf k b h) d := by
  unfold kc5; pointwise; exact kc4_at k b (krow n r) h d
attribute [local irreducible] kc5

/-- The largest entry over two of five axes. -/
theorem sup_24 {n0 n1 n2 n3 n4 : Nat} (h : (⟨5, ![n0, n1, n2, n3, n4]⟩ : Shape).ReducesTo [2, 4] ⟨3, ![n0, n1, n3]⟩)
    (f : (⟨5, ![n0, n1, n2, n3, n4]⟩ : Shape).Idx → EReal) (a : Fin n0) (b : Fin n1) (c : Fin n3) :
    (Finset.univ.filter fun i => h.drop i = ix3 a b c).sup f = Finset.univ.sup fun r : Fin n2 => Finset.univ.sup fun d : Fin n4 => f (ix5 a b r c d) := by
  apply le_antisymm
  · refine Finset.sup_le fun i hi => ?_
    have e := (Finset.mem_filter.mp hi).2
    have e0 : i 0 = a := by apply Fin.ext; exact congrArg Fin.val (congrFun e 0)
    have e1 : i 1 = b := by apply Fin.ext; exact congrArg Fin.val (congrFun e 1)
    have e2 : i 3 = c := by apply Fin.ext; exact congrArg Fin.val (congrFun e 2)
    have ei : i = ix5 a b (i 2) c (i 4) := by
      funext q; apply Fin.ext
      match q with
      | ⟨0, _⟩ => exact congrArg Fin.val e0
      | ⟨1, _⟩ => exact congrArg Fin.val e1
      | ⟨2, _⟩ => rfl
      | ⟨3, _⟩ => exact congrArg Fin.val e2
      | ⟨4, _⟩ => rfl
    rw [ei]
    exact le_trans (Finset.le_sup (f := fun d : Fin n4 => f (ix5 a b (i 2) c d)) (Finset.mem_univ (i 4)))
      (Finset.le_sup (f := fun r : Fin n2 => Finset.univ.sup fun d : Fin n4 => f (ix5 a b r c d)) (Finset.mem_univ (i 2)))
  · refine Finset.sup_le fun r _ => Finset.sup_le fun d _ => Finset.le_sup (f := f) (Finset.mem_filter.mpr ⟨Finset.mem_univ _, ?_⟩)
    funext q; apply Fin.ext
    match q with
    | ⟨0, _⟩ => rfl
    | ⟨1, _⟩ => rfl
    | ⟨2, _⟩ => rfl

theorem qa_at (b : Fin 3) (i : Fin 5) (h : Fin 16) : qa x (ix3 b i h) = qAmax (qOf x b i h) := by
  unfold qa; pointwise
  rw [ofBits_ninf, fold_max, sup_24]
  simp only [q5_at]; rfl
theorem ka_at (b : Fin 3) (n : Fin 10) (h : Fin 8) : ka k (ix3 b n h) = kAmax (kOf k b h) n := by
  unfold ka; pointwise
  rw [ofBits_ninf, fold_max, sup_24]
  simp only [kc5_at]; rfl
attribute [local irreducible] qa ka
/-- A scale at an index. -/
theorem scl_at {s : Shape} (A : FVec Ideal s .f32) (f0 f1 f2) (j : s.Idx) :
    (select (cmpf .ogt A (broadcastInDim s ![] f0 (constant S_ .f32 0x00000000#32)))
      (Host.divf A (broadcastInDim s ![] f1 (constant S_ .f32 0x42FE0000#32))) (broadcastInDim s ![] f2 (id (constant S_ .f32 0x3F800000#32)))) j
      = scl (A j) := rfl

/-- A code at an index. -/
theorem code_at {s : Shape} (A B : FVec Ideal s .f32) (f0 f1) (j : s.Idx) :
    (minimumf (broadcastInDim s ![] f0 (id (constant S_ .f32 0x42FE0000#32)))
      (maximumf (broadcastInDim s ![] f1 (id (constant S_ .f32 0xC2FE0000#32))) (Host.roundeven (Host.divf A B)))) j = code (A j) (B j) := rfl

/-- A scaled product at an index. -/
theorem scaled_at {s : Shape} (A B C : FVec Ideal s .f32) (f0) (j : s.Idx) :
    (mulf (mulf (mulf A B) C) (broadcastInDim s ![] f0 (constant S_ .f32 0x3D800000#32))) j = A j * B j * C j * Ideal.ofBits .f32 0x3D800000#32 := rfl

theorem qs_at (b : Fin 3) (i : Fin 5) (h : Fin 16) : qs x (ix3 b i h) = scl (qAmax (qOf x b i h)) := by
  rw [← qa_at]; unfold qs; exact scl_at _ _ _ _ _
theorem ks_at (b : Fin 3) (n : Fin 10) (h : Fin 8) : ks k (ix3 b n h) = scl (kAmax (kOf k b h) n) := by
  rw [← ka_at]; unfold ks; exact scl_at _ _ _ _ _
attribute [local irreducible] qs ks

theorem qc_at (b : Fin 3) (i : Fin 5) (r : Fin 128) (h : Fin 16) (d : Fin 256) : qc x (ix5 b i r h d) = qCode (qOf x b i h) r d := by
  unfold qc; rw [code_at]; pointwise; rw [q5_at, qs_at]; rfl
theorem kc_at (b : Fin 3) (n : Fin 10) (r : Fin 64) (h : Fin 8) (d : Fin 256) : kc k (ix5 b n r h d)
    = code (kOf k b h (krow n r) d - mean (kOf k b h) d) (scl (kAmax (kOf k b h) n)) := by
  unfold kc; rw [code_at]; pointwise; rw [kc5_at, ks_at]
attribute [local irreducible] qc kc

/-- A query's block. -/
def qblk (q : Fin 640) : Fin 5 := ⟨q.val / 128, by omega⟩
/-- A query's row in its block. -/
def qrow (q : Fin 640) : Fin 128 := ⟨q.val % 128, by omega⟩
/-- Head `g` of the pair `h`. -/
def pairHead (h : Fin 8) (g : Fin 2) : Fin 16 := ⟨h.val * 2 + g.val, by omega⟩

theorem qk_at (b : Fin 3) (h : Fin 8) (g : Fin 2) (q s : Fin 640) : qk x k (ix5 b h g q s)
    = ∑ d, qCode (qOf x b (qblk q) (pairHead h g)) (qrow q) d * kCode (kOf k b h) s d := by
  unfold qk; pointwise
  refine Finset.sum_congr rfl fun d _ => ?_
  have e : krow (kblk s) ⟨s.val % 64, by omega⟩ = s := Fin.ext (by show s.val / 64 * 64 + s.val % 64 = s.val; omega)
  have h1 := qc_at x b (qblk q) (qrow q) (pairHead h g) d
  have h2 := kc_at k b (kblk s) ⟨s.val % 64, by omega⟩ h d
  rw [e] at h2
  exact congrArg₂ (· * ·) h1 h2
attribute [local irreducible] qk

theorem sc_at (b : Fin 3) (h : Fin 8) (g : Fin 2) (q s : Fin 640) : sc x k (ix5 b h g q s)
    = score (qOf x b (qblk q) (pairHead h g)) (kOf k b h) (qrow q) s := by
  unfold sc; rw [scaled_at]
  unfold score
  rw [qk_at]
  refine congrArg₂ (· * ·) (congrArg₂ (· * ·) (congrArg₂ (· * ·) rfl ?_) ?_) rfl
  · pointwise
    exact qs_at x b (qblk q) (pairHead h g)
  · pointwise
    exact ks_at k b (kblk s) h
attribute [local irreducible] sc

/-- Positions as words compare as numbers. -/
theorem sle_iff (s q : Fin 640) : IntOp.cmpi .sle (BitVec.ofNat 32 s.val) (BitVec.ofNat 32 q.val) = if s.val ≤ q.val then 1#1 else 0#1 := by
  have h : ((BitVec.ofNat 32 s.val).sle (BitVec.ofNat 32 q.val)) = decide (s.val ≤ q.val) := by
    have := s.isLt; have := q.isLt
    simp only [BitVec.sle, BitVec.toInt_ofNat', Nat.reducePow]
    rw [Bool.eq_iff_iff]; simp only [decide_eq_true_eq]
    rw [Int.bmod_eq_of_le (by omega) (by omega), Int.bmod_eq_of_le (by omega) (by omega)]
    omega
  unfold IntOp.cmpi
  simp only [h]
  by_cases hs : s.val ≤ q.val <;> simp [hs]

theorem ms_at (b : Fin 3) (h : Fin 8) (g : Fin 2) (q s : Fin 640) : ms x k (ix5 b h g q s)
    = masked (qblk q).val (qOf x b (qblk q) (pairHead h g)) (kOf k b h) (qrow q) s := by
  unfold ms; pointwise
  rw [sle_iff, sc_at]
  have e : (id (constant (F := Ideal) S_ .f32 4286578688#32) ix0 : EReal) = ⊥ := ofBits_ninf
  have eq : (qblk q).val * 128 + (qrow q).val = q.val := by show q.val / 128 * 128 + q.val % 128 = q.val; omega
  unfold masked
  rw [eq]
  by_cases hs : s.val ≤ q.val
  · rw [if_pos hs, if_pos hs]; rfl
  · rw [if_neg hs, if_neg hs]; exact e
attribute [local irreducible] ms

theorem pr_at (b : Fin 3) (h : Fin 8) (g : Fin 2) (q s : Fin 640) : pr x k (ix5 b h g q s)
    = weight (qblk q).val (qOf x b (qblk q) (pairHead h g)) (kOf k b h) (qrow q) s := by
  unfold pr; pointwise
  simp only [ms_at, ofBits_ninf, fold_max]
  rfl
attribute [local irreducible] pr

/-- A result column's pair of heads. -/
def cpair (c : Fin 4096) : Fin 8 := ⟨c.val / 512, by omega⟩
/-- A result column's head within its pair. -/
def cg (c : Fin 4096) : Fin 2 := ⟨c.val / 256 % 2, by omega⟩
/-- A result column within its head. -/
def ccol (c : Fin 4096) : Fin 256 := ⟨c.val % 256, by omega⟩

/-- The reference's first result, index by index. -/
theorem out_at (b : Fin 3) (q : Fin 640) (c : Fin 4096) : out x k v (ix3 b q c)
    = attn (qblk q).val (qOf x b (qblk q) (pairHead (cpair c) (cg c))) (kOf k b (cpair c)) (kOf v b (cpair c)) (qrow q) (ccol c) := by
  unfold out; pointwise
  have e : ∀ s, pr x k (ix5 b (cpair c) (cg c) q s) = weight (qblk q).val (qOf x b (qblk q) (pairHead (cpair c) (cg c))) (kOf k b (cpair c)) (qrow q) s :=
    fun s => pr_at x k b (cpair c) (cg c) q s
  exact congrArg₂ Ideal.div (Finset.sum_congr rfl fun s _ => congrArg (· * _) (e s)) (Finset.sum_congr rfl fun s _ => e s)

end Cert.ReferenceIdeal.Hand
-- ==== Proof.Point.lean ====
/-
  A grid point: its windows' blocks in terms of the arguments, and what the body does there.
-/
module

public import proofs.«01_k».proof.Proof.Body
public import proofs.«01_k».proof.Proof.RefValue
public import proofs.«01_k».proof.Proof.FrameIdeal.Runs

@[expose] public section
noncomputable section
namespace Cert.KernelIdeal.Hand
open Idealize.ShloMosaic Idealize.ShloMosaic.TcCoe
open Cert.KernelIdeal.Gen Cert.Attention
open Cert.ReferenceIdeal.Hand (qOf kOf)

variable (m : (ℓ : Loc nD τ sig) → Buf (Elt Ideal) ℓ) (c : Dev nD)

/-- The queries. -/
abbrev argX : S3x640x4096.Idx → EReal := m ((c : Thread nD τ).loc main_arg0)
/-- The keys. -/
abbrev argK : S3x640x2048.Idx → EReal := m ((c : Thread nD τ).loc main_arg1)
/-- The values. -/
abbrev argV : S3x640x2048.Idx → EReal := m ((c : Thread nD τ).loc main_arg2)

/-- The sequence of a point's number. -/
def sq (n : Nat) : Fin 3 := ⟨n / 5 % 3, by omega⟩
/-- The block of a point's number. -/
def bk (n : Nat) : Fin 5 := ⟨n % 5, by omega⟩

/-- Where the windows stand at each point. -/
theorem index_all : ∀ t : Fin grid0.N,
    (win0_0.index t 0 = t.val / 5 % 3 ∧ win0_0.index t 1 = t.val % 5 ∧ win0_0.index t 2 = 0)
    ∧ (win0_1.index t 0 = t.val / 5 % 3 ∧ win0_1.index t 1 = 0 ∧ win0_1.index t 2 = 0)
    ∧ (win0_2.index t 0 = t.val / 5 % 3 ∧ win0_2.index t 1 = t.val % 5 ∧ win0_2.index t 2 = 0)
    ∧ (win0_3.index t 0 = t.val / 5 % 3 ∧ win0_3.index t 1 = t.val % 5 ∧ win0_3.index t 2 = 0) := by
  decide +kernel

/-- The queries' block. -/
theorem iblk0_at (t : Fin cfg0.N) (r : Fin 128) (u : Fin 4096) :
    (iblk m c 0 t : S1x128x4096.Idx → EReal) (ix3 0 r u) = argX m c (ix3 (sq t.val) ⟨(bk t.val).val * 128 + r.val, by omega⟩ u) := by
  obtain ⟨h0, h1, h2⟩ := (index_all t).1
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 5 % 3; rw [h0]; omega
  | ⟨1, _⟩ => show win0_0.index t 1 * 128 + 1 * r.val = t.val % 5 * 128 + r.val; rw [h1]; omega
  | ⟨2, _⟩ => show win0_0.index t 2 * 4096 + 1 * u.val = u.val; rw [h2]; omega

/-- The keys' block. -/
theorem iblk1_at (t : Fin cfg0.N) (s : Fin 640) (u : Fin 2048) :
    (iblk m c 1 t : S1x640x2048.Idx → EReal) (ix3 0 s u) = argK m c (ix3 (sq t.val) s u) := by
  obtain ⟨h0, h1, h2⟩ := (index_all t).2.1
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 5 % 3; rw [h0]; omega
  | ⟨1, _⟩ => show win0_1.index t 1 * 640 + 1 * s.val = s.val; rw [h1]; omega
  | ⟨2, _⟩ => show win0_1.index t 2 * 2048 + 1 * u.val = u.val; rw [h2]; omega

/-- The values' block. -/
theorem iblk2_at (t : Fin cfg0.N) (r : Fin 128) (u : Fin 2048) :
    (iblk m c 2 t : S1x128x2048.Idx → EReal) (ix3 0 r u) = argV m c (ix3 (sq t.val) ⟨(bk t.val).val * 128 + r.val, by omega⟩ u) := by
  obtain ⟨h0, h1, h2⟩ := (index_all t).2.2.1
  unfold iblk
  rw [View.read_apply]
  show V m c main_arg2 _ = m (c.tc.loc main_arg2) _
  unfold V
  congr 1
  funext a
  apply Fin.ext
  match a with
  | ⟨0, _⟩ => show win0_2.index t 0 * 1 + 1 * 0 = t.val / 5 % 3; rw [h0]; omega
  | ⟨1, _⟩ => show win0_2.index t 1 * 128 + 1 * r.val = t.val % 5 * 128 + r.val; rw [h1]; omega
  | ⟨2, _⟩ => show win0_2.index t 2 * 2048 + 1 * u.val = u.val; rw [h2]; omega

/-- The inputs at point `t`. -/
def env (t : Fin cfg0.N) : Env where
  i := bk t.val
  x0 := iblk m c 0 t
  k0 := iblk m c 1 t
  v0 := iblk m c 2 t
  X := qOf (argX m c) (sq t.val) (bk t.val)
  K := kOf (argK m c) (sq t.val)
  V := kOf (argV m c) (sq t.val)
  hx h r d := iblk0_at m c t r (c16 h d)
  hk h s d := iblk1_at m c t s (c8 h d)
  hv h r d := iblk2_at m c t r (c8 h d)

/-- What the scratch holds of a sequence's keys and values, as far as `D` says. -/
structure Kept (K V : Fin 8 → Fin 640 → Fin 256 → EReal) (D : Done) (σ : St Ideal) : Prop where
  mean : ∀ h, D.mean h → ∀ d, σ .mean (ix2 0 (c8 h d)) = Attention.mean (K h) d
  code : ∀ h n, D.code h n → ∀ r d, σ .kcode (ix2 (krow n r) (c8 h d)) = kCode (K h) (krow n r) d
  scale : ∀ h n, D.scale h n → ∀ l, σ .kscale (ix2 ⟨h.val * 10 + n.val, by omega⟩ l) = scl (kAmax (K h) n)
  vt : ∀ h b, D.vt h b → ∀ d r, σ .vt (ix2 (c8 h d) (vrow b r)) = V h (vrow b r) d
  mask : D.mask → ∀ r q, σ .mask (ix2 r q) = if r ≤ q then (0 : EReal) else ⊥

/-- What is known of the scratch before point `n`. -/
def carried (n : Nat) : Done :=
  ⟨fun _ => 0 < n % 5, fun _ b => b.val < 2 * (n % 5), fun _ b => b.val < 2 * (n % 5), fun _ b => b.val < n % 5, fun _ => False, 0 < n⟩

/-- The invariant between points. -/
def Inv (c : Dev nD) (n : Nat) (σ : St Ideal) : Prop := Kept (kOf (argK m c) (sq n)) (kOf (argV m c) (sq n)) (carried n) σ

/-- What a point leaves in its block of the result. -/
def Out (c : Dev nD) (t : Fin cfg0.N) (X : S1x128x4096.Idx → EReal) : Prop :=
  ∀ h r d, X (ix3 0 r (c16 h d))
    = attn (bk t.val).val (qOf (argX m c) (sq t.val) (bk t.val) h) (kOf (argK m c) (sq t.val) (kvOf h)) (kOf (argV m c) (sq t.val) (kvOf h)) r d

/-- Nothing is known before the first point. -/
theorem inv_zero (σ : St Ideal) : Inv m c 0 σ :=
  ⟨fun _ a => absurd a (Nat.lt_irrefl 0), fun _ _ a => absurd a (Nat.not_lt_zero _), fun _ _ a => absurd a (Nat.not_lt_zero _),
    fun _ _ a => absurd a (Nat.not_lt_zero _), fun a => absurd a (Nat.lt_irrefl 0)⟩

/-- From the invariant between points to what is known before the block. -/
theorem before_point (t : Fin cfg0.N) (first : Bool) (hf : first = true ↔ t.val = 0) (σ : St Ideal) (h : Inv m c t.val σ)
    (hx : σ .x = iblk m c 0 t) (hk : σ .k = iblk m c 1 t) (hv : σ .v = iblk m c 2 t) : J (env m c t) (before first (t.val % 5)) σ := by
  refine ⟨hx, hk, hv, h.mean, h.code, h.scale, h.vt, fun _ a => a.elim, fun a => h.mask ?_⟩
  have a : first = false := a
  show 0 < t.val
  by_contra hc
  have := hf.mpr (by omega)
  rw [a] at this
  exact Bool.noConfusion this

/-- From what is known after the block to the invariant between points. -/
theorem after_point (t : Fin cfg0.N) (σ' : St Ideal) (J1 : J (env m c t) (after (t.val % 5)) σ') : Inv m c (t.val + 1) σ' := by
  unfold Inv
  by_cases hl : t.val % 5 = 4
  · have e : (t.val + 1) % 5 = 0 := by omega
    refine ⟨fun _ a => ?_, fun _ _ a => ?_, fun _ _ a => ?_, fun _ _ a => ?_, fun _ => J1.mask trivial⟩
    · have a : 0 < (t.val + 1) % 5 := a
      omega
    all_goals
      exfalso
      simp only [carried, e] at a
      omega
  · have e : (t.val + 1) % 5 = t.val % 5 + 1 := by omega
    have e' : sq (t.val + 1) = sq t.val := Fin.ext (by show (t.val + 1) / 5 % 3 = t.val / 5 % 3; omega)
    rw [e']
    refine ⟨fun h _ => J1.mean h trivial, fun h b a => J1.code h b ?_, fun h b a => J1.scale h b ?_, fun h b a => J1.vt h b ?_, fun _ => J1.mask trivial⟩
    all_goals
      simp only [carried, e] at a
      exact a

attribute [local irreducible] body in
/-- The body at point `t`: from the invariant there to the invariant after it, the block of the result made. -/
theorem point_meets {R : Refs} (hR : ∀ b, (R b).IsWhole) (t : Fin cfg0.N) (first : Bool) (hf : first = true ↔ t.val = 0) (n : Nat) (hn : t.val % 5 = n)
    (hi : n < 5) (off : Fin 3 → Nat) (ho) (σ σ' : St Ideal) (e : ((body hR first n hi off ho).sem σ).2 = σ')
    (h : Inv m c t.val σ) (hx : σ .x = iblk m c 0 t) (hk : σ .k = iblk m c 1 t) (hv : σ .v = iblk m c 2 t) :
    σ' .x = iblk m c 0 t ∧ σ' .k = iblk m c 1 t ∧ σ' .v = iblk m c 2 t ∧ Out m c t (σ' .out) ∧ Inv m c (t.val + 1) σ' := by
  have J0 := before_point m c t first hf σ h hx hk hv
  rw [hn] at J0
  have hE : (env m c t).i.val = n := hn
  have J1 : J (env m c t) (after n) σ' := by
    rw [← e]
    generalize env m c t = E at J0 hE ⊢
    subst hE
    exact body_meets hR E first (fun e => by have := hf.mp e; omega) hi off ho σ J0
  rw [← hn] at J1
  exact ⟨J1.x, J1.k, J1.v, fun h r d => J1.out h trivial r d, after_point m c t σ' J1⟩

end Cert.KernelIdeal.Hand
-- ==== Proof.Final.lean ====
/-
  The result array from its blocks.
-/
module

public import proofs.«01_k».proof.Proof.Point
public import Idealize.ShloMosaic.Lib.Pipeline.ValueKit.Geometry

@[expose] public section
noncomputable section
namespace Cert.KernelIdeal.Hand
open Idealize.ShloMosaic Idealize.ShloMosaic.TcCoe
open Idealize.ShloMosaic.Pipeline (Dat)
open Idealize.SL Idealize.SL.RA
open Cert.KernelIdeal.Gen Cert.Attention
open Cert.ReferenceIdeal.Hand (qOf kOf out out_at)

variable (m : (ℓ : Loc nD τ sig) → Buf (Elt Ideal) ℓ) (c : Dev nD)

/-- A block of the reference's result is what a point leaves. -/
theorem block_at (t : Fin cfg0.N) (X : S1x128x4096.Idx → EReal) (h : Out m c t X) (r : Fin 128) (u : Fin 4096) :
    X (ix3 0 r u) = out (argX m c) (argK m c) (argV m c) (ix3 (sq t.val) ⟨(bk t.val).val * 128 + r.val, by omega⟩ u) := by
  have e : u = c16 ⟨u.val / 256, by omega⟩ ⟨u.val % 256, by omega⟩ := Fin.ext (by show u.val = u.val / 256 * 256 + u.val % 256; omega)
  rw [out_at]
  refine (congrArg (fun u => X (ix3 0 r u)) e).trans ((h _ r _).trans ?_)
  have e1 : Cert.ReferenceIdeal.Hand.qblk ⟨(bk t.val).val * 128 + r.val, by omega⟩ = bk t.val := Fin.ext (by show ((bk t.val).val * 128 + r.val) / 128 = _; omega)
  have e2 : Cert.ReferenceIdeal.Hand.qrow ⟨(bk t.val).val * 128 + r.val, by omega⟩ = r := Fin.ext (by show ((bk t.val).val * 128 + r.val) % 128 = _; omega)
  have e3 : kvOf ⟨u.val / 256, by omega⟩ = Cert.ReferenceIdeal.Hand.cpair u := Fin.ext (by show u.val / 256 / 2 = u.val / 512; omega)
  have e4 : Cert.ReferenceIdeal.Hand.pairHead (Cert.ReferenceIdeal.Hand.cpair u) (Cert.ReferenceIdeal.Hand.cg u) = ⟨u.val / 256, by omega⟩ :=
    Fin.ext (by show u.val / 512 * 2 + u.val / 256 % 2 = u.val / 256; omega)
  rw [e1, e2, e3, e4]
  rfl

/-- The result array, if every point leaves its block. -/
theorem final_out (dat : Dat τ (Elt Ideal) Unit ℕ (UR sig nD τ) ℕ cfg0 c) (h : ∀ t, Out m c t (dat.after 3 t)) :
    dat.arrAt 3 cfg0.N = out (argX m c) (argK m c) (argV m c) := by
  refine dat.arrAt_eq_of_covers 3 _ (by decide +kernel) fun t hf y => ?_
  obtain ⟨h0, h1, h2⟩ := (index_all t).2.2.2
  have y' : S1x128x4096.Idx := y
  have hy : y = (ix3 0 (y 1) (y 2) : S1x128x4096.Idx) := by
    funext a
    match a with
    | ⟨0, _⟩ => exact Subsingleton.elim (α := Fin 1) _ _
    | ⟨1, _⟩ => rfl
    | ⟨2, _⟩ => rfl
  refine Eq.trans ?_ ((block_at m c t _ (h t) (y 1) (y 2)).trans ?_)
  · show dat.after 3 t _ = dat.after 3 t _
    exact congrArg (dat.after 3 t) hy
  · congr 1
    funext a
    apply Fin.ext
    match a with
    | ⟨0, _⟩ =>
      have : (y 0).val < 1 := (y 0).isLt
      show t.val / 5 % 3 = win0_3.index t 0 * 1 + 1 * (y 0).val; rw [h0]; omega
    | ⟨1, _⟩ => show t.val % 5 * 128 + (y 1).val = win0_3.index t 1 * 128 + 1 * (y 1).val; rw [h1]; omega
    | ⟨2, _⟩ => show (y 2).val = win0_3.index t 2 * 4096 + 1 * (y 2).val; rw [h2]; omega

end Cert.KernelIdeal.Hand
-- ==== Proof.Does.lean ====
/-
  Every run of the idealized kernel ends with the reference's attention in its first result.
-/
module

public import proofs.«01_k».proof.Proof.Run
public import proofs.«01_k».proof.Proof.Final

@[expose] public section

noncomputable section

namespace Cert.KernelIdeal.Hand

open Idealize.ShloMosaic Idealize.ShloMosaic.TcCoe
open Idealize.SL.Sem
open Cert.KernelIdeal.Gen
open Cert.ReferenceIdeal.Hand (out qOf kOf)

variable (m : (ℓ : Loc nD τ sig) → Buf (Elt Ideal) ℓ) (ρ : Dev nD → PrngReg)

/-- What is known between points depends only on the scratch the body reads. -/
theorem inv_same (c : Dev nD) (n : ℕ) (σ σ' : St Ideal) (e : SameScratch σ σ') (h : Inv m c n σ) : Inv m c n σ' := by
  obtain ⟨e0, e1, e2, e3, e4⟩ := e
  exact ⟨by rw [← e0]; exact h.mean, by rw [← e1]; exact h.code, by rw [← e3]; exact h.scale, by rw [← e2]; exact h.vt,
    by rw [← e4]; exact h.mask⟩

/-- At every grid point the body turns what is known before the point into what is known after it, and leaves its block of attention. -/
theorem does (c : Dev nD) (t : Fin cfg0.N) : Does m (Inv m) (Out m) c t := by
  obtain ⟨first, n, hi, off, ho, hf, hn, e⟩ := body_at (F := Ideal) t
  exact ⟨_, e, fun σ h hx hk hv => point_meets m c (stageRefs_whole t) t first hf n hn hi off ho σ _ rfl h hx hk hv⟩

/-- The launch, with every block of the first result a block of attention. -/
theorem run_out : θ_run defs (onTc (τ := τ) (main (F := Ideal))) (s₀ m ρ)
    (Pipeline.RDat.FramePostR (cfgs 0) (rdat m (Inv m) (Out m)) T0 (V m)) :=
  (θ_run defs _ _).mono (fun _ h => h.1) (run_rel m ρ (Inv m) (Out m) (inv_same m) (inv_zero m) (does m))

/-- Every run ends with the reference's attention of the arguments in the first result, and the arguments as they were. -/
theorem value : θ_run defs (onTc (τ := τ) (main (F := Ideal))) ⟨m, fun _ => 0, ρ⟩ (fun r =>
    (∀ c : Dev nD, r.2.mem ((c.tc : Thread nD τ).loc main_v0_0)
      = out (m ((c.tc : Thread nD τ).loc main_arg0)) (m ((c.tc : Thread nD τ).loc main_arg1)) (m ((c.tc : Thread nD τ).loc main_arg2)))
    ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine θ_run_and ((θ_run defs _ _).mono (fun r h c => ?_) (run_out m ρ)) (frame_of m ρ (rdat m (Inv m) (Out m)) (fun _ _ => rfl) (run_out m ρ))
  obtain ⟨after, hL, hA⟩ := Pipeline.RDat.FramePostR.exists_exact h c
  refine (hA 3).trans (final_out m c (((rdat m (Inv m) (Out m)) c).withAfter after) fun t => ?_)
  obtain ⟨Y, _, h3⟩ := hL 3 t (flush0_3 t)
  exact h3

end Cert.KernelIdeal.Hand
-- ==== Proof.lean ====
/-
  The claim: no run of the kernel, of the idealized kernel or of the reference faults, and every run ends with the arguments
  unchanged and every semaphore at zero; the idealized kernel's constants are the kernel's to rounding; and over the extended
  reals the kernel's first result, the attention, is the reference's, element for element, whatever the arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.FrameKernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.FrameIdeal
public import proofs.«01_k».proof.Proof.Gen.ReferenceIdeal
public import proofs.«01_k».proof.Proof.Gen.ReferenceIdeal.Run
public import proofs.«01_k».proof.Proof.Does
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The side conditions of the predicate that says where the results are claimed equal: a scalar broadcasts to any shape. -/
theorem on_facts : Cert.On_attention_out.Facts where
  bcast_S_S3x640x4096 := by decide
  bcast_S_S3x640x16x256 := by decide
  bcast_S_S3x5x16 := by decide
  bcast_S_S3x640x8x256 := by decide
  bcast_S_S3x10x8 := by decide

/-- Nothing is claimed where the predicate is false. -/
theorem nothing {P : Prop} (a : (0#1 : BitVec 1) = 1#1) : P := absurd a (by decide)

/-- Over the extended reals the kernel's attention is the reference's, whatever the arguments. -/
theorem agree : Cert.algebraic_KernelIdeal_ReferenceIdeal_on_attention_out (hKernelIdeal := Cert.KernelIdeal.Gen.facts)
    (hReferenceIdeal := Cert.ReferenceIdeal.Gen.facts) (hOn_attention_out := on_facts) := by
  intro m g m' g' _ same
  refine ⟨fun c => Cert.ReferenceIdeal.Hand.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => m _, fun c => m _, fun c => m _, fun c => m _, ?_, ?_⟩
  · exact (θ_run Cert.KernelIdeal.defs _ _).mono (fun r h c => ⟨fun i _ => congrFun (h.1 c) i, fun _ a => nothing a, fun _ a => nothing a,
      fun _ a => nothing a, fun _ a => nothing a, h.2 c⟩) (Cert.KernelIdeal.Hand.value m g)
  · refine (θ_run Cert.ReferenceIdeal.defs _ _).mono (fun r h c => ⟨fun i _ => congrFun ((h c).1.trans ?_) i, fun _ a => nothing a,
      fun _ a => nothing a, fun _ a => nothing a, fun _ a => nothing a, (h c).2.2.2.2.2⟩) (Cert.ReferenceIdeal.Value.run (F := Ideal) m' g')
    obtain ⟨e0, e1, e2⟩ := same c
    rw [Cert.ReferenceIdeal.Hand.res_eq, e0, e1, e2]

/-- Everything claimed. -/
theorem claim : Cert.Claim := ⟨Cert.Kernel.Gen.facts, Cert.KernelIdeal.Gen.facts, Cert.ReferenceIdeal.Gen.facts, on_facts,
  fun m ρ _ => Cert.Kernel.Gen.frame m ρ, fun m ρ _ => Cert.KernelIdeal.Gen.frame m ρ,
  fun m ρ _ => (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ),
  ⟨IdealRules.named_const.statement Cert.KernelIdeal.κ "inv_seq" .f32 0x3ACCCCCD#32 _ rfl,
    IdealRules.named_const.statement Cert.KernelIdeal.κ "log2e_scale" .f32 0x3DB8AA3B#32 _ rfl⟩,
  agree⟩

end Cert.Proof

end
